-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S24x768 : Shape := ⟨2, ![24, 768]⟩
abbrev S768x30522 : Shape := ⟨2, ![768, 30522]⟩
abbrev S1x30522 : Shape := ⟨2, ![1, 30522]⟩
abbrev S24x512 : Shape := ⟨2, ![24, 512]⟩
abbrev S24 : Shape := ⟨1, ![24]⟩
abbrev S_ : Shape := ⟨0, ![]⟩

class Facts : Prop where
  bcast_S_S24x768 : S_.BroadcastsInDim S24x768 (![] : Fin 0 → Fin S24x768.rank)
  bcast_S_S768x30522 : S_.BroadcastsInDim S768x30522 (![] : Fin 0 → Fin S768x30522.rank)
  bcast_S_S1x30522 : S_.BroadcastsInDim S1x30522 (![] : Fin 0 → Fin S1x30522.rank)
  bcast_S_S24 : S_.BroadcastsInDim S24 (![] : Fin 0 → Fin S24.rank)

variable [Facts]

def fn {F : FTy → Type} [FloatOps F] (main_arg0 : FVec F S24x768 .f32) (main_arg1 : FVec F S768x30522 .f32) (main_arg2 : FVec F S1x30522 .f32) (main_arg3 : IVec S24x512 32) (main_arg4 : FVec F S24 .f32) : IVec S24x768 1 × IVec S768x30522 1 × IVec S1x30522 1 × IVec S24 1 :=
  let main_v0 : FVec F S24x768 .f32 := Host.absf main_arg0
  let main_cst : FVec F S_ .f32 := constant S_ .f32 0x7F800000#32
  let main_v1 : FVec F S24x768 .f32 := broadcastInDim S24x768 ![] bcast_S_S24x768 main_cst
  let main_v2 : IVec S24x768 1 := cmpf .olt main_v0 main_v1
  let main_v3 : FVec F S768x30522 .f32 := Host.absf main_arg1
  let main_cst_0 : FVec F S_ .f32 := constant S_ .f32 0x7F800000#32
  let main_v4 : FVec F S768x30522 .f32 := broadcastInDim S768x30522 ![] bcast_S_S768x30522 main_cst_0
  let main_v5 : IVec S768x30522 1 := cmpf .olt main_v3 main_v4
  let main_v6 : FVec F S1x30522 .f32 := Host.absf main_arg2
  let main_cst_1 : FVec F S_ .f32 := constant S_ .f32 0x7F800000#32
  let main_v7 : FVec F S1x30522 .f32 := broadcastInDim S1x30522 ![] bcast_S_S1x30522 main_cst_1
  let main_v8 : IVec S1x30522 1 := cmpf .olt main_v6 main_v7
  let main_cst_2 : FVec F S_ .f32 := constant S_ .f32 0xBF800000#32
  let main_v9 : FVec F S24 .f32 := broadcastInDim S24 ![] bcast_S_S24 main_cst_2
  let main_v10 : IVec S24 1 := cmpf .ogt main_arg4 main_v9
  (main_v2, main_v5, main_v8, main_v10)
-- ==== Kernel.lean ====
abbrev S24x768 : Shape := ⟨2, ![24, 768]⟩
abbrev S768x30522 : Shape := ⟨2, ![768, 30522]⟩
abbrev S1x30522 : Shape := ⟨2, ![1, 30522]⟩
abbrev S24x512 : Shape := ⟨2, ![24, 512]⟩
abbrev S24 : Shape := ⟨1, ![24]⟩
abbrev S30522x768 : Shape := ⟨2, ![30522, 768]⟩
abbrev S24x3 : Shape := ⟨2, ![24, 3]⟩
abbrev S5120x768 : Shape := ⟨2, ![5120, 768]⟩
abbrev S1x5120 : Shape := ⟨2, ![1, 5120]⟩
abbrev S24x1 : Shape := ⟨2, ![24, 1]⟩
abbrev S24x5120 : Shape := ⟨2, ![24, 5120]⟩
abbrev S24x6 : Shape := ⟨2, ![24, 6]⟩
abbrev S8x3x512 : Shape := ⟨3, ![8, 3, 512]⟩
abbrev S8x9 : Shape := ⟨2, ![8, 9]⟩
abbrev S8x3 : Shape := ⟨2, ![8, 3]⟩
abbrev S8x1x512 : Shape := ⟨3, ![8, 1, 512]⟩
abbrev S8x512 : Shape := ⟨2, ![8, 512]⟩
abbrev S8x513 : Shape := ⟨2, ![8, 513]⟩
abbrev S8x1 : Shape := ⟨2, ![8, 1]⟩
abbrev S8 : Shape := ⟨1, ![8]⟩
abbrev S8x1x513 : Shape := ⟨3, ![8, 1, 513]⟩
abbrev S8x3x513 : Shape := ⟨3, ![8, 3, 513]⟩
abbrev S24x513 : Shape := ⟨2, ![24, 513]⟩
abbrev S_ : Shape := ⟨0, ![]⟩

abbrev nBuf : Space → Nat
  | .hbm => 33
  | .vmem => 22
  | .smem => 0
  | _ => 0

abbrev bufTy : (tb : Table) → Fin (tcTables nBuf tb) → BufTy
  | .hbm, ⟨0, _⟩ => ⟨S24x768, .f32⟩
  | .hbm, ⟨1, _⟩ => ⟨S768x30522, .f32⟩
  | .hbm, ⟨2, _⟩ => ⟨S1x30522, .f32⟩
  | .hbm, ⟨3, _⟩ => ⟨S24x512, .i32⟩
  | .hbm, ⟨4, _⟩ => ⟨S24, .f32⟩
  | .hbm, ⟨5, _⟩ => ⟨S30522x768, .f32⟩
  | .hbm, ⟨6, _⟩ => ⟨S24x3, .f32⟩
  | .hbm, ⟨7, _⟩ => ⟨S24x3, .i32⟩
  | .hbm, ⟨8, _⟩ => ⟨S8x3x512, .i32⟩
  | .hbm, ⟨9, _⟩ => ⟨S8x9, .f32⟩
  | .hbm, ⟨10, _⟩ => ⟨S8x9, .i32⟩
  | .hbm, ⟨11, _⟩ => ⟨S8x3, .f32⟩
  | .hbm, ⟨12, _⟩ => ⟨S8x1x512, .i32⟩
  | .hbm, ⟨13, _⟩ => ⟨S8x512, .i32⟩
  | .hbm, ⟨14, _⟩ => ⟨S8x1x512, .i32⟩
  | .hbm, ⟨15, _⟩ => ⟨S8x512, .i32⟩
  | .hbm, ⟨16, _⟩ => ⟨S8x1x512, .i32⟩
  | .hbm, ⟨17, _⟩ => ⟨S8x512, .i32⟩
  | .hbm, ⟨18, _⟩ => ⟨S8x513, .i32⟩
  | .hbm, ⟨19, _⟩ => ⟨S8x513, .i32⟩
  | .hbm, ⟨20, _⟩ => ⟨S8x513, .i32⟩
  | .hbm, ⟨21, _⟩ => ⟨S8x3, .f32⟩
  | .hbm, ⟨22, _⟩ => ⟨S8x3, .i32⟩
  | .hbm, ⟨23, _⟩ => ⟨S8x1x513, .i32⟩
  | .hbm, ⟨24, _⟩ => ⟨S8x1x513, .i32⟩
  | .hbm, ⟨25, _⟩ => ⟨S8x1x513, .i32⟩
  | .hbm, ⟨26, _⟩ => ⟨S8x3x513, .i32⟩
  | .hbm, ⟨27, _⟩ => ⟨S24x513, .i32⟩
  | .hbm, ⟨28, _⟩ => ⟨S24, .f32⟩
  | .hbm, ⟨29, _⟩ => ⟨S24, .i32⟩
  | .hbm, ⟨30, _⟩ => ⟨S_, .i32⟩
  | .hbm, ⟨31, _⟩ => ⟨S24, .i32⟩
  | .hbm, ⟨32, _⟩ => ⟨S24, .i1⟩
  | .local _ .vmem, ⟨0, _⟩ => ⟨S24x768, .f32⟩
  | .local _ .vmem, ⟨1, _⟩ => ⟨S5120x768, .f32⟩
  | .local _ .vmem, ⟨2, _⟩ => ⟨S5120x768, .f32⟩
  | .local _ .vmem, ⟨3, _⟩ => ⟨S1x5120, .f32⟩
  | .local _ .vmem, ⟨4, _⟩ => ⟨S1x5120, .f32⟩
  | .local _ .vmem, ⟨5, _⟩ => ⟨S24x3, .f32⟩
  | .local _ .vmem, ⟨6, _⟩ => ⟨S24x3, .i32⟩
  | .local _ .vmem, ⟨7, _⟩ => ⟨S24x1, .f32⟩
  | .local _ .vmem, ⟨8, _⟩ => ⟨S24x1, .f32⟩
  | .local _ .vmem, ⟨9, _⟩ => ⟨S24x3, .f32⟩
  | .local _ .vmem, ⟨10, _⟩ => ⟨S24x3, .i32⟩
  | .local _ .vmem, ⟨11, _⟩ => ⟨S8x9, .f32⟩
  | .local _ .vmem, ⟨12, _⟩ => ⟨S8x9, .i32⟩
  | .local _ .vmem, ⟨13, _⟩ => ⟨S8x3, .f32⟩
  | .local _ .vmem, ⟨14, _⟩ => ⟨S8x512, .i32⟩
  | .local _ .vmem, ⟨15, _⟩ => ⟨S8x512, .i32⟩
  | .local _ .vmem, ⟨16, _⟩ => ⟨S8x512, .i32⟩
  | .local _ .vmem, ⟨17, _⟩ => ⟨S8x513, .i32⟩
  | .local _ .vmem, ⟨18, _⟩ => ⟨S8x513, .i32⟩
  | .local _ .vmem, ⟨19, _⟩ => ⟨S8x513, .i32⟩
  | .local _ .vmem, ⟨20, _⟩ => ⟨S8x3, .f32⟩
  | .local _ .vmem, ⟨21, _⟩ => ⟨S8x3, .i32⟩
  | _, _ => ⟨S24x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v142 : BitVec 1 := Scalar.cmpi .eq arg0 c5_i32
  let v143 : BitVec 32 := Scalar.extui v142
  let c0_i32_55 : BitVec 32 := 0#32
  let v144 : BitVec 1 := Scalar.cmpi .ne v143 c0_i32_55
  v144

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5120x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S24x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x3 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := .none

abbrev stage1_0 : Fin 1 → Memref sig .tc .vmem S8x9 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x9 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x512 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x512 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x512 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x513 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x513 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x513 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x3 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x3 .i32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S24x768 : Shape := ⟨2, ![24, 768]⟩
abbrev S768x30522 : Shape := ⟨2, ![768, 30522]⟩
abbrev S1x30522 : Shape := ⟨2, ![1, 30522]⟩
abbrev S24x512 : Shape := ⟨2, ![24, 512]⟩
abbrev S24 : Shape := ⟨1, ![24]⟩
abbrev S24x30522 : Shape := ⟨2, ![24, 30522]⟩
abbrev S_ : Shape := ⟨0, ![]⟩
abbrev S24x1 : Shape := ⟨2, ![24, 1]⟩
abbrev S24x3 : Shape := ⟨2, ![24, 3]⟩
abbrev S8x3x1 : Shape := ⟨3, ![8, 3, 1]⟩
abbrev S8x3x3 : Shape := ⟨3, ![8, 3, 3]⟩
abbrev S8x9 : Shape := ⟨2, ![8, 9]⟩
abbrev S8x3 : Shape := ⟨2, ![8, 3]⟩
abbrev S1 : Shape := ⟨1, ![1]⟩
abbrev S1x1x1 : Shape := ⟨3, ![1, 1, 1]⟩
abbrev S8x3x512 : Shape := ⟨3, ![8, 3, 512]⟩
abbrev S8x3x513 : Shape := ⟨3, ![8, 3, 513]⟩
abbrev S24x513 : Shape := ⟨2, ![24, 513]⟩

abbrev nBuf : Space → Nat
  | .hbm => 115
  | .vmem => 0
  | .smem => 0
  | _ => 0

abbrev bufTy : (tb : Table) → Fin (tcTables nBuf tb) → BufTy
  | .hbm, ⟨0, _⟩ => ⟨S24x768, .f32⟩
  | .hbm, ⟨1, _⟩ => ⟨S768x30522, .f32⟩
  | .hbm, ⟨2, _⟩ => ⟨S1x30522, .f32⟩
  | .hbm, ⟨3, _⟩ => ⟨S24x512, .i32⟩
  | .hbm, ⟨4, _⟩ => ⟨S24, .f32⟩
  | .hbm, ⟨5, _⟩ => ⟨S24x30522, .f32⟩
  | .hbm, ⟨6, _⟩ => ⟨S24x30522, .f32⟩
  | .hbm, ⟨7, _⟩ => ⟨S24x30522, .f32⟩
  | .hbm, ⟨8, _⟩ => ⟨S_, .f32⟩
  | .hbm, ⟨9, _⟩ => ⟨S24, .f32⟩
  | .hbm, ⟨10, _⟩ => ⟨S_, .f32⟩
  | .hbm, ⟨11, _⟩ => ⟨S24, .f32⟩
  | .hbm, ⟨12, _⟩ => ⟨S24, .f32⟩
  | .hbm, ⟨13, _⟩ => ⟨S24x1, .f32⟩
  | .hbm, ⟨14, _⟩ => ⟨S24x30522, .f32⟩
  | .hbm, ⟨15, _⟩ => ⟨S24x30522, .f32⟩
  | .hbm, ⟨16, _⟩ => ⟨S24x30522, .f32⟩
  | .hbm, ⟨17, _⟩ => ⟨S_, .f32⟩
  | .hbm, ⟨18, _⟩ => ⟨S24, .f32⟩
  | .hbm, ⟨19, _⟩ => ⟨S24x1, .f32⟩
  | .hbm, ⟨20, _⟩ => ⟨S24x30522, .f32⟩
  | .hbm, ⟨21, _⟩ => ⟨S24x30522, .f32⟩
  | .hbm, ⟨22, _⟩ => ⟨S24x3, .f32⟩
  | .hbm, ⟨23, _⟩ => ⟨S24x3, .i32⟩
  | .hbm, ⟨24, _⟩ => ⟨S8x3x1, .f32⟩
  | .hbm, ⟨25, _⟩ => ⟨S8x3x3, .f32⟩
  | .hbm, ⟨26, _⟩ => ⟨S8x3x3, .f32⟩
  | .hbm, ⟨27, _⟩ => ⟨S8x3x3, .f32⟩
  | .hbm, ⟨28, _⟩ => ⟨S8x9, .f32⟩
  | .hbm, ⟨29, _⟩ => ⟨S8x3, .f32⟩
  | .hbm, ⟨30, _⟩ => ⟨S8x3, .i32⟩
  | .hbm, ⟨31, _⟩ => ⟨S8x9, .i32⟩
  | .hbm, ⟨32, _⟩ => ⟨S_, .i32⟩
  | .hbm, ⟨33, _⟩ => ⟨S8x3, .i32⟩
  | .hbm, ⟨34, _⟩ => ⟨S8x3, .i1⟩
  | .hbm, ⟨35, _⟩ => ⟨S_, .i32⟩
  | .hbm, ⟨36, _⟩ => ⟨S8x3, .i32⟩
  | .hbm, ⟨37, _⟩ => ⟨S8x3, .i32⟩
  | .hbm, ⟨38, _⟩ => ⟨S8x3, .i32⟩
  | .hbm, ⟨39, _⟩ => ⟨S8x3x1, .i32⟩
  | .hbm, ⟨40, _⟩ => ⟨S1, .i32⟩
  | .hbm, ⟨41, _⟩ => ⟨S_, .i32⟩
  | .hbm, ⟨42, _⟩ => ⟨S8x3x1, .i32⟩
  | .hbm, ⟨43, _⟩ => ⟨S8x3x1, .i1⟩
  | .hbm, ⟨44, _⟩ => ⟨S1x1x1, .i32⟩
  | .hbm, ⟨45, _⟩ => ⟨S8x3x1, .i32⟩
  | .hbm, ⟨46, _⟩ => ⟨S8x3x1, .i1⟩
  | .hbm, ⟨47, _⟩ => ⟨S8x3x1, .i1⟩
  | .hbm, ⟨48, _⟩ => ⟨S_, .i1⟩
  | .hbm, ⟨49, _⟩ => ⟨S8x3, .i1⟩
  | .hbm, ⟨50, _⟩ => ⟨S8x3, .i32⟩
  | .hbm, ⟨51, _⟩ => ⟨S_, .i32⟩
  | .hbm, ⟨52, _⟩ => ⟨S8x3, .i32⟩
  | .hbm, ⟨53, _⟩ => ⟨S8x3, .i32⟩
  | .hbm, ⟨54, _⟩ => ⟨S_, .i32⟩
  | .hbm, ⟨55, _⟩ => ⟨S_, .i32⟩
  | .hbm, ⟨56, _⟩ => ⟨S8x3, .i32⟩
  | .hbm, ⟨57, _⟩ => ⟨S8x3, .i32⟩
  | .hbm, ⟨58, _⟩ => ⟨S8x3, .i32⟩
  | .hbm, ⟨59, _⟩ => ⟨S_, .i32⟩
  | .hbm, ⟨60, _⟩ => ⟨S8x3, .i32⟩
  | .hbm, ⟨61, _⟩ => ⟨S8x3, .i1⟩
  | .hbm, ⟨62, _⟩ => ⟨S8x3, .i32⟩
  | .hbm, ⟨63, _⟩ => ⟨S8x3, .i32⟩
  | .hbm, ⟨64, _⟩ => ⟨S_, .i32⟩
  | .hbm, ⟨65, _⟩ => ⟨S8x3, .i32⟩
  | .hbm, ⟨66, _⟩ => ⟨S8x3, .i1⟩
  | .hbm, ⟨67, _⟩ => ⟨S8x3, .i1⟩
  | .hbm, ⟨68, _⟩ => ⟨S_, .i32⟩
  | .hbm, ⟨69, _⟩ => ⟨S8x3, .i32⟩
  | .hbm, ⟨70, _⟩ => ⟨S8x3, .i32⟩
  | .hbm, ⟨71, _⟩ => ⟨S8x3, .i32⟩
  | .hbm, ⟨72, _⟩ => ⟨S8x3x512, .i32⟩
  | .hbm, ⟨73, _⟩ => ⟨S8x3x1, .i32⟩
  | .hbm, ⟨74, _⟩ => ⟨S_, .i32⟩
  | .hbm, ⟨75, _⟩ => ⟨S8x3x1, .i32⟩
  | .hbm, ⟨76, _⟩ => ⟨S8x3x1, .i1⟩
  | .hbm, ⟨77, _⟩ => ⟨S_, .i32⟩
  | .hbm, ⟨78, _⟩ => ⟨S8x3x1, .i32⟩
  | .hbm, ⟨79, _⟩ => ⟨S8x3x1, .i32⟩
  | .hbm, ⟨80, _⟩ => ⟨S8x3x1, .i32⟩
  | .hbm, ⟨81, _⟩ => ⟨S1, .i32⟩
  | .hbm, ⟨82, _⟩ => ⟨S_, .i32⟩
  | .hbm, ⟨83, _⟩ => ⟨S8x3x1, .i32⟩
  | .hbm, ⟨84, _⟩ => ⟨S8x3x1, .i1⟩
  | .hbm, ⟨85, _⟩ => ⟨S1x1x1, .i32⟩
  | .hbm, ⟨86, _⟩ => ⟨S8x3x1, .i32⟩
  | .hbm, ⟨87, _⟩ => ⟨S8x3x1, .i1⟩
  | .hbm, ⟨88, _⟩ => ⟨S8x3x1, .i1⟩
  | .hbm, ⟨89, _⟩ => ⟨S_, .i1⟩
  | .hbm, ⟨90, _⟩ => ⟨S8x3, .i1⟩
  | .hbm, ⟨91, _⟩ => ⟨S8x3x512, .i32⟩
  | .hbm, ⟨92, _⟩ => ⟨S8x3x512, .i1⟩
  | .hbm, ⟨93, _⟩ => ⟨S_, .i32⟩
  | .hbm, ⟨94, _⟩ => ⟨S8x3x512, .i32⟩
  | .hbm, ⟨95, _⟩ => ⟨S8x3x512, .i32⟩
  | .hbm, ⟨96, _⟩ => ⟨S8x3x1, .i32⟩
  | .hbm, ⟨97, _⟩ => ⟨S8x3x513, .i32⟩
  | .hbm, ⟨98, _⟩ => ⟨S24x513, .i32⟩
  | .hbm, ⟨99, _⟩ => ⟨S_, .i32⟩
  | .hbm, ⟨100, _⟩ => ⟨S24x513, .i32⟩
  | .hbm, ⟨101, _⟩ => ⟨S24x513, .i1⟩
  | .hbm, ⟨102, _⟩ => ⟨S24x513, .i32⟩
  | .hbm, ⟨103, _⟩ => ⟨S_, .i32⟩
  | .hbm, ⟨104, _⟩ => ⟨S24, .i32⟩
  | .hbm, ⟨105, _⟩ => ⟨S_, .i32⟩
  | .hbm, ⟨106, _⟩ => ⟨S24, .i32⟩
  | .hbm, ⟨107, _⟩ => ⟨S24, .i1⟩
  | .hbm, ⟨108, _⟩ => ⟨S_, .i32⟩
  | .hbm, ⟨109, _⟩ => ⟨S24x513, .i32⟩
  | .hbm, ⟨110, _⟩ => ⟨S24x513, .i1⟩
  | .hbm, ⟨111, _⟩ => ⟨S_, .i1⟩
  | .hbm, ⟨112, _⟩ => ⟨S24, .i1⟩
  | .hbm, ⟨113, _⟩ => ⟨S24, .i1⟩
  | .hbm, ⟨114, _⟩ => ⟨S24, .f32⟩
  | _, _ => ⟨S24x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_values_2 : Ref sig .tc := ⟨.hbm, 29, rfl⟩
abbrev main_indices_3 : Ref sig .tc := ⟨.hbm, 30, rfl⟩
abbrev main_v19 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_c_4 : Ref sig .tc := ⟨.hbm, 51, rfl⟩
abbrev main_call0_v14 : Ref sig .tc := ⟨.hbm, 52, rfl⟩
abbrev main_v20 : Ref sig .tc := ⟨.hbm, 53, rfl⟩
abbrev main_c : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_c : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_0 : Ref sig .tc := ⟨.hbm, 68, rfl⟩
abbrev main_call1_v12 : Ref sig .tc := ⟨.hbm, 69, rfl⟩
abbrev main_call1_v13 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_c_1 : Ref sig .tc := ⟨.hbm, 81, rfl⟩
abbrev main_call2_c_2 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_c_3 : Ref sig .tc := ⟨.hbm, 89, rfl⟩
abbrev main_call2_v11 : Ref sig .tc := ⟨.hbm, 90, rfl⟩
abbrev main_call2_v12 : Ref sig .tc := ⟨.hbm, 91, rfl⟩
abbrev main_call2_v13 : Ref sig .tc := ⟨.hbm, 92, rfl⟩
abbrev main_call2_c_4 : Ref sig .tc := ⟨.hbm, 93, rfl⟩
abbrev main_call2_v14 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_c_4 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_c_5 : Ref sig .tc := ⟨.hbm, 103, rfl⟩
abbrev main_v31 : Ref sig .tc := ⟨.hbm, 104, rfl⟩
abbrev main_c_6 : Ref sig .tc := ⟨.hbm, 105, rfl⟩
abbrev main_v32 : Ref sig .tc := ⟨.hbm, 106, rfl⟩
abbrev main_v33 : Ref sig .tc := ⟨.hbm, 107, rfl⟩
abbrev main_c_7 : Ref sig .tc := ⟨.hbm, 108, rfl⟩
abbrev main_v34 : Ref sig .tc := ⟨.hbm, 109, rfl⟩
abbrev main_v35 : Ref sig .tc := ⟨.hbm, 110, rfl⟩
abbrev main_c_8 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩

abbrev nD : Nat := 1
abbrev τ : Topo := Topo.v7x

variable {F : FTy → Type} [FloatOps F]
-- ==== Proof.IRun0.lean ====
/-
  The projection kernel's body (`cc0__proj_topk_kernel`), run once at a symbolic grid point: what a point does to the four
  scratch buffers (running maximum, running sum, three best values, three best columns) as a function `step` of the staged
  blocks, and the two writes of the last point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.WholeRead
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra: one copy of the pipelines' for the launch, one for the regions as they are entered. -/
abbrev UU : Type := UR sig nD τ × UR sig nD τ

local notation "𝕄" => MT nD τ sig Unit (Elt F) ℕ UU ℕ

/-- What the four scratch buffers hold. -/
structure St (F : FTy → Type) [FloatOps F] where
  m : Vec F S24x1 .f32
  s : Vec F S24x1 .f32
  v : Vec F S24x3 .f32
  i : Vec F S24x3 .i32

/-- What the first point starts them at. -/
def St.init : St F := ⟨k0_pay4, k0_pay5, k0_pay6, k0_pay7⟩

/-- The column numbers of a tile. -/
abbrev cols : IVec S24x5120 32 := iota .tc S24x5120 32 [1] iota_S24x5120_d1_w32

/-- The tile's masked logits. -/
abbrev lg (i : grid0.Coords) (h : Vec F S24x768 .f32) (w : Vec F S5120x768 .f32) (b : Vec F S1x5120 .f32) : FVec F S24x5120 .f32 := k0_pay8 i h w b
/-- A point's number as a word. -/
abbrev jv (i : grid0.Coords) : BitVec 32 := BitVec.ofNat 32 (i 0).val

/-- The three best of six, as the kernel picks them: the values, -/
def top6v (a0 a1 a2 : FVec F S24x1 .f32) (v : Vec F S24x3 .f32) : FVec F S24x3 .f32 :=
  k0_pay1 (k0_pay24 a0 a1 a2 v) (k0_pay28 a0 a1 a2 v) (k0_pay32 a0 a1 a2 v)
/-- and the columns. -/
def top6i (a0 : FVec F S24x1 .f32) (i0 : IVec S24x1 32) (a1 : FVec F S24x1 .f32) (i1 : IVec S24x1 32) (a2 : FVec F S24x1 .f32) (i2 : IVec S24x1 32)
    (v : Vec F S24x3 .f32) (i : Vec F S24x3 .i32) : IVec S24x3 32 :=
  k0_pay2 (k0_pay23 i0 i1 i2 i) (iota .tc S24x6 32 [1] iota_S24x6_d1_w32) (k0_pay26 a0 i0 a1 i1 a2 i2 v i) (k0_pay30 a0 i0 a1 i1 a2 i2 v i)
    (k0_pay31 a0 a1 a2 v) (k0_pay33 a0 a1 a2 v)

/-- One grid point's effect on the scratch. -/
def step (i : grid0.Coords) (h : Vec F S24x768 .f32) (w : Vec F S5120x768 .f32) (b : Vec F S1x5120 .f32) (σ : St F) : St F where
  m := k0_pay11 (k0_pay9 i h w b σ.m)
  s := k0_pay10 i h w b σ.m σ.s
  v := top6v (k0_pay12 (lg i h w b)) (k0_pay16 cols (lg i h w b)) (k0_pay20 cols (lg i h w b)) σ.v
  i := top6i (k0_pay12 (lg i h w b)) (k0_pay14 (jv i) cols (lg i h w b)) (k0_pay16 cols (lg i h w b)) (k0_pay18 (jv i) cols (lg i h w b))
        (k0_pay20 cols (lg i h w b)) (k0_pay21 (jv i) cols (lg i h w b)) σ.v σ.i

/-! ## Whole loads and stores -/

/-- The zero offsets. -/
theorem hz2 : (![0, 0] : Fin 2 → Nat) = fun _ => 0 := funext fun a => by fin_cases a <;> rfl

/-- A load through the whole buffer's rectangle reads what the buffer holds. -/
theorem ld_full {sp : Space} {S : Shape} {e : EltTy} (v : View sig .tc sp S e) (f : v.ty.Contents (Elt F)) {off : Fin S.rank → Nat} (h : off = fun _ => 0)
    (inb : ∀ a, off a + S.size a ≤ S.size a) : v.readAt (Elt F) (Rect.unit off S.size inb).toLoadRect f = v.read (Elt F) f :=
  View.ld_unit_zero h inb (v.read (Elt F) f)

/-- The four scratch memrefs held at a state. -/
def ownSt (c : Dev nD) (M6 : Memref sig .tc .vmem S24x1 .f32) (M7 : Memref sig .tc .vmem S24x1 .f32) (M8 : Memref sig .tc .vmem S24x3 .f32)
    (M9 : Memref sig .tc .vmem S24x3 .i32) (σ : St F) : sProp 𝕄 :=
  iprop(owns (c : Thread nD τ) M6 fullShare σ.m ∗ owns (c : Thread nD τ) M7 fullShare σ.s ∗ owns (c : Thread nD τ) M8 fullShare σ.v
    ∗ owns (c : Thread nD τ) M9 fullShare σ.i)

/-- Whether the point is the first. -/
def isFst (i : grid0.Coords) : BitVec 1 := Scalar.cmpi .ne (Scalar.extui (Scalar.cmpi .eq (jv i) 0#32) : BitVec 32) 0#32

/-- The state a point works on: the first point's own start, else what the scratch holds. -/
def start (i : grid0.Coords) (σ : St F) : St F := if isFst i = 1#1 then St.init else σ
/-- A point's effect from what the scratch holds. -/
def next (i : grid0.Coords) (h : Vec F S24x768 .f32) (w : Vec F S5120x768 .f32) (b : Vec F S1x5120 .f32) (σ : St F) : St F := step i h w b (start i σ)
/-- What the last point stores as probabilities. -/
def St.prob (σ : St F) : Vec F S24x3 .f32 := k0_pay3 σ.v σ.m σ.s

set_option maxHeartbeats 2000000 in
/-- The projection kernel's body run at one point. -/
theorem run0 (c : Dev nD) (i : grid0.Coords) (arg1 : Memref sig .tc .vmem S24x768 .f32) (h1 : arg1.IsWhole) (arg2 : Memref sig .tc .vmem S5120x768 .f32) (h2 : arg2.IsWhole)
    (arg3 : Memref sig .tc .vmem S1x5120 .f32) (h3 : arg3.IsWhole) (arg4 : Memref sig .tc .vmem S24x3 .f32) (h4 : arg4.IsWhole) (arg5 : Memref sig .tc .vmem S24x3 .i32) (h5 : arg5.IsWhole)
    (arg6 : Memref sig .tc .vmem S24x1 .f32) (h6 : arg6.IsWhole) (arg7 : Memref sig .tc .vmem S24x1 .f32) (h7 : arg7.IsWhole)
    (arg8 : Memref sig .tc .vmem S24x3 .f32) (h8 : arg8.IsWhole) (arg9 : Memref sig .tc .vmem S24x3 .i32) (h9 : arg9.IsWhole)
    (x1 : Vec F S24x768 .f32) (x2 : Vec F S5120x768 .f32) (x3 : Vec F S1x5120 .f32) (x4 : Vec F S24x3 .f32) (x5 : Vec F S24x3 .i32) (σ : St F) :
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ ownSt c arg6 arg7 arg8 arg9 σ
            ∗ (iprop(owns (c : Thread nD τ) arg1 fullShare x1 ∗ owns (c : Thread nD τ) arg2 fullShare x2 ∗ owns (c : Thread nD τ) arg3 fullShare x3
            ∗ owns (c : Thread nD τ) arg4 fullShare (if k0_cond2 i = 1#1 then (next i x1 x2 x3 σ).prob else x4)
            ∗ owns (c : Thread nD τ) arg5 fullShare (if k0_cond2 i = 1#1 then (next i x1 x2 x3 σ).i else x5)
            ∗ ownSt c arg6 arg7 arg8 arg9 (next i x1 x2 x3 σ)) -∗ K ⟨⟩))
          ⊢ wp frame (wpE (defs₀ (F := F)) Variants.none c none) E (cc0__proj_topk_kernel i arg1 h1 arg2 h2 arg3 h3 arg4 h4 arg5 h5 arg6 h6 arg7 h7 arg8 h8 arg9 h9) K := by
  intro E K
  simp only [cc0__proj_topk_kernel_eq_skeleton]; unfold cc0__proj_topk_kernel_skel
  simp only [k0_part1_eq_skeleton, k0_part2_eq_skeleton, k0_part3_eq_skeleton]
  unfold ownSt owns
  iintro ⟨⟨%f1, %hf1, H1⟩, ⟨%f2, %hf2, H2⟩, ⟨%f3, %hf3, H3⟩, ⟨%f4, %hf4, H4⟩, ⟨%f5, %hf5, H5⟩, ⟨⟨%f6, %hf6, H6⟩, ⟨%f7, %hf7, H7⟩, ⟨%f8, %hf8, H8⟩, ⟨%f9, %hf9, H9⟩⟩, Hk⟩
  sl_exec
  sl_step
  iapply Hk
  have e20 : run0.sl.v20 c i arg6 f6 = (start i σ).m := by
    unfold run0.sl.v20; refine (ld_full _ _ hz2 _).trans ?_
    unfold start; by_cases hc : isFst i = 1#1
    · rw [dif_pos (show run0.sl.v2 i = 1#1 from hc), if_pos hc]; exact View.read_writes_full _ _ _ _ _
    · rw [dif_neg (show ¬ run0.sl.v2 i = 1#1 from hc), if_neg hc]; exact hf6
  have e22 : run0.sl.v22 c i arg7 f7 = (start i σ).s := by
    unfold run0.sl.v22; refine (ld_full _ _ hz2 _).trans ?_
    unfold start; by_cases hc : isFst i = 1#1
    · rw [dif_pos (show run0.sl.v2 i = 1#1 from hc), if_pos hc]; exact View.read_writes_full _ _ _ _ _
    · rw [dif_neg (show ¬ run0.sl.v2 i = 1#1 from hc), if_neg hc]; exact hf7
  have e79 : run0.sl.v79 c i arg8 f8 = (start i σ).v := by
    unfold run0.sl.v79; refine (ld_full _ _ hz2 _).trans ?_
    unfold start; by_cases hc : isFst i = 1#1
    · rw [dif_pos (show run0.sl.v2 i = 1#1 from hc), if_pos hc]; exact View.read_writes_full _ _ _ _ _
    · rw [dif_neg (show ¬ run0.sl.v2 i = 1#1 from hc), if_neg hc]; exact hf8
  have e81 : run0.sl.v81 c i arg9 f9 = (start i σ).i := by
    unfold run0.sl.v81; refine (ld_full _ _ hz2 _).trans ?_
    unfold start; by_cases hc : isFst i = 1#1
    · rw [dif_pos (show run0.sl.v2 i = 1#1 from hc), if_pos hc]; exact View.read_writes_full _ _ _ _ _
    · rw [dif_neg (show ¬ run0.sl.v2 i = 1#1 from hc), if_neg hc]; exact hf9
  have l1 := (ld_full arg1.view f1 hz2 inb_S24x768_S24x768_0_0).trans hf1
  have l2 := (ld_full arg2.view f2 hz2 inb_S5120x768_S5120x768_0_0).trans hf2
  have l3 := (ld_full arg3.view f3 hz2 inb_S1x5120_S1x5120_0_0).trans hf3
  have er : run0.sl.r c i arg1 arg2 arg3 f1 f2 f3 = lg i x1 x2 x3 := by unfold run0.sl.r; rw [l1, l2, l3]
  have er1 : k0_pay11 (run0.sl.r_1 c i arg1 arg2 arg3 arg6 f1 f2 f3 f6) = (next i x1 x2 x3 σ).m := by unfold run0.sl.r_1; rw [l1, l2, l3, e20]; rfl
  have es : k0_pay10 i (View.readAt (Elt F) arg1.view (Rect.unit ![0, 0] S24x768.size inb_S24x768_S24x768_0_0).toLoadRect f1)
        (View.readAt (Elt F) arg2.view (Rect.unit ![0, 0] S5120x768.size inb_S5120x768_S5120x768_0_0).toLoadRect f2)
        (View.readAt (Elt F) arg3.view (Rect.unit ![0, 0] S1x5120.size inb_S1x5120_S1x5120_0_0).toLoadRect f3)
        (run0.sl.v20 c i arg6 f6) (run0.sl.v22 c i arg7 f7) = (next i x1 x2 x3 σ).s := by rw [l1, l2, l3, e20, e22]; rfl
  have ev : k0_pay1 (run0.sl.r_9 c i arg1 arg2 arg3 arg8 f1 f2 f3 f8) (run0.sl.r_11 c i arg1 arg2 arg3 arg8 f1 f2 f3 f8)
        (run0.sl.r_14 c i arg1 arg2 arg3 arg8 f1 f2 f3 f8) = (next i x1 x2 x3 σ).v := by
    unfold run0.sl.r_9 run0.sl.r_11 run0.sl.r_14 run0.sl.r_2 run0.sl.r_4 run0.sl.r_6; rw [er, e79]; rfl
  have ei : k0_pay2 (run0.sl.r_8 c i arg1 arg2 arg3 arg9 f1 f2 f3 f9) run0.sl.v83
        (run0.sl.r_10 c i arg1 arg2 arg3 arg8 arg9 f1 f2 f3 f8 f9)
        (run0.sl.r_12 c i arg1 arg2 arg3 arg8 arg9 f1 f2 f3 f8 f9) (run0.sl.r_13 c i arg1 arg2 arg3 arg8 f1 f2 f3 f8)
        (run0.sl.r_15 c i arg1 arg2 arg3 arg8 f1 f2 f3 f8) = (next i x1 x2 x3 σ).i := by
    unfold run0.sl.r_8 run0.sl.r_10 run0.sl.r_12 run0.sl.r_13 run0.sl.r_15 run0.sl.r_2 run0.sl.r_3 run0.sl.r_4 run0.sl.r_5 run0.sl.r_6 run0.sl.r_7
    rw [er, e79, e81]; rfl
  have ev' : run0.sl.v145 c i arg1 arg2 arg3 arg8 f1 f2 f3 f8 = (next i x1 x2 x3 σ).v :=
    (View.readCov_full arg8.view _ _ _ _).trans ev
  have ei' : run0.sl.v154 c i arg1 arg2 arg3 arg8 arg9 f1 f2 f3 f8 f9 = (next i x1 x2 x3 σ).i :=
    (View.readCov_full arg9.view _ _ _ _).trans ei
  have em' : run0.sl.v146 c i arg1 arg2 arg3 arg6 f1 f2 f3 f6 = (next i x1 x2 x3 σ).m :=
    (View.readCov_full arg6.view _ _ _ _).trans er1
  have es' : run0.sl.v150 c i arg1 arg2 arg3 arg6 arg7 f1 f2 f3 f6 f7 = (next i x1 x2 x3 σ).s :=
    (View.readCov_full arg7.view _ _ _ _).trans es
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]
  · iexists _; isplitr; swap; (· iexact H4); ipureintro
    by_cases hc : k0_cond2 i = 1#1
    · rw [dif_pos hc, if_pos hc, ev', em', es']; exact View.read_writes_full _ _ _ _ _
    · rw [dif_neg hc, if_neg hc]; exact hf4
  isplitl [H5]
  · iexists _; isplitr; swap; (· iexact H5); ipureintro
    by_cases hc : k0_cond2 i = 1#1
    · rw [dif_pos hc, if_pos hc, ei']; exact View.read_writes_full _ _ _ _ _
    · rw [dif_neg hc, if_neg hc]; exact hf5
  isplitl [H6]
  · iexists _; isplitr; swap; (· iexact H6); ipureintro
    exact (View.read_writes_full _ _ _ _ _).trans er1
  isplitl [H7]
  · iexists _; isplitr; swap; (· iexact H7); ipureintro
    exact (View.read_writes_full _ _ _ _ _).trans es
  isplitl [H8]
  · iexists _; isplitr; swap; (· iexact H8); ipureintro
    exact (View.read_writes_full _ _ _ _ _).trans ev
  iexists _; isplitr; swap; (· iexact H9); ipureintro
  exact (View.read_writes_full _ _ _ _ _).trans ei

end Cert.KernelIdeal.Own

end
-- ==== Proof.IRun1.lean ====
/-
  The beam-merge kernel's body (`cc1__beam_merge_kernel`), run once on whole buffers: what each of its five outputs holds
  afterwards, as a function of the six inputs.
-/
module

public import proofs.«01_k».proof.Proof.IRun0
public import Idealize.ShloMosaic.Lib.Pipeline.FrameBody
public import Idealize.ShloMosaic.Lib.WholeRead
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ

/-- The column indices of the candidates. -/
abbrev cc : IVec S8x9 32 := iota Kind.tc S8x9 32 [1] iota_S8x9_d1_w32

/-- What the merge finds: three beams' rows without their last token, their last tokens, their scores and their counts. -/
structure Mg (F : FTy → Type) where
  (r0 r1 r2 : Vec F S8x512 .i32) (n0 n1 n2 : Vec F S8x1 .i32) (p0 p1 p2 : Vec F S8x1 .f32) (c0 c1 c2 : Vec F S8x1 .i32)

section
variable (x0 : Vec F S8x9 .f32) (x1 : Vec F S8x9 .i32) (x2 : Vec F S8x3 .f32) (x3 x4 x5 : Vec F S8x512 .i32)
/-- The candidates' scores, then the scores with the best one, then the two best ones, struck out. -/
def e0 : FVec F S8x9 .f32 := k1_pay3 x0 x2
def pos0 : IVec S8x1 32 := k1_pay8 x0 x2
def e1 : FVec F S8x9 .f32 := k1_pay11 (e0 x0 x2) cc (pos0 x0 x2)
def pos1 : IVec S8x1 32 := k1_pay16 cc (e1 x0 x2)
def e2 : FVec F S8x9 .f32 := k1_pay20 cc (e1 x0 x2) (pos1 x0 x2)
def pos2 : IVec S8x1 32 := k1_pay25 cc (e2 x0 x2)
def tok0 : IVec S8x1 32 := k1_pay9 x0 x1 x2
def tok1 : IVec S8x1 32 := k1_pay17 (k1_pay2 (F := F) x1) cc (e1 x0 x2)
def tok2 : IVec S8x1 32 := k1_pay26 (k1_pay2 (F := F) x1) cc (e2 x0 x2)
def row0 : IVec S8x512 32 := k1_pay12 (k1_pay4 (F := F) x3) (k1_pay5 (F := F) x4) (k1_pay6 (F := F) x5) (pos0 x0 x2) 3#32 (k1_pay10 x0 x2)
def row1 : IVec S8x512 32 := k1_pay21 (k1_pay4 (F := F) x3) (k1_pay5 (F := F) x4) (k1_pay6 (F := F) x5) (pos1 x0 x2) 3#32 (k1_pay18 cc (e1 x0 x2)) (k1_pay19 cc (e1 x0 x2)) 0#32
def row2 : IVec S8x512 32 := k1_pay29 (k1_pay4 (F := F) x3) (k1_pay5 (F := F) x4) (k1_pay6 (F := F) x5) (pos2 x0 x2) 3#32 (k1_pay27 cc (e2 x0 x2)) (k1_pay28 cc (e2 x0 x2)) 0#32
def cnt0 : IVec S8x1 32 := k1_pay14 (tok0 x0 x1 x2) (row0 x0 x2 x3 x4 x5) (k1_pay13 (k1_pay4 (F := F) x3) (k1_pay5 (F := F) x4) (k1_pay6 (F := F) x5) (pos0 x0 x2) 3#32 (k1_pay10 x0 x2))
def cnt1 : IVec S8x1 32 := k1_pay23 (tok1 x0 x1 x2) (row1 x0 x2 x3 x4 x5) (k1_pay22 (k1_pay4 (F := F) x3) (k1_pay5 (F := F) x4) (k1_pay6 (F := F) x5) (pos1 x0 x2) (tok1 x0 x1 x2) 3#32 (k1_pay18 cc (e1 x0 x2)) (k1_pay19 cc (e1 x0 x2)) 0#32)
def cnt2 : IVec S8x1 32 := k1_pay1 (k1_pay30 (k1_pay4 (F := F) x3) (k1_pay5 (F := F) x4) (k1_pay6 (F := F) x5) (pos2 x0 x2) (tok2 x0 x1 x2) 3#32 (k1_pay27 cc (e2 x0 x2)) (k1_pay28 cc (e2 x0 x2)) 0#32)
  (k1_pay31 (k1_pay4 (F := F) x3) (k1_pay5 (F := F) x4) (k1_pay6 (F := F) x5) (pos2 x0 x2) 3#32 (k1_pay27 cc (e2 x0 x2)) (k1_pay28 cc (e2 x0 x2)) 0#32) (k1_pay32 (tok2 x0 x1 x2))
/-- The merge of the six inputs. -/
def mg : Mg F := ⟨row0 x0 x2 x3 x4 x5, row1 x0 x2 x3 x4 x5, row2 x0 x2 x3 x4 x5, tok0 x0 x1 x2, tok1 x0 x1 x2, tok2 x0 x1 x2,
  k1_pay7 x0 x2, k1_pay15 (e1 x0 x2), k1_pay24 (e2 x0 x2), cnt0 x0 x1 x2 x3 x4 x5, cnt1 x0 x1 x2 x3 x4 x5, cnt2 x0 x1 x2 x3 x4 x5⟩
end

/-- A row and, in the last place, a token. -/
def joined (r : Vec F S8x512 .i32) (n : Vec F S8x1 .i32) : Vec F S8x513 .i32 := fun y =>
  if h : (y 1).val < 512 then r (fun a => ⟨(y a).val, by
    revert a; exact Fin.forall_fin_two.mpr ⟨(y 0).isLt, h⟩⟩)
  else n (fun a => ⟨(![(y 0).val, 0] : Fin 2 → ℕ) a, by
    revert a; exact Fin.forall_fin_two.mpr ⟨(y 0).isLt, Nat.one_pos⟩⟩)

/-- Three columns side by side. -/
def three {e : EltTy} (a b c : Vec F S8x1 e) : Vec F S8x3 e := fun y =>
  (if (y 1).val = 0 then a else if (y 1).val = 1 then b else c) (fun a => ⟨(![(y 0).val, 0] : Fin 2 → ℕ) a, by
    revert a; exact Fin.forall_fin_two.mpr ⟨(y 0).isLt, Nat.one_pos⟩⟩)

/-- A row written in two pieces, read back. -/
theorem read_joined {sp : Space} (v : View sig .tc sp S8x513 .i32) (f : v.ty.Contents (Elt F)) (r : Vec F S8x512 .i32) (n : Vec F S8x1 .i32) :
    v.read (Elt F) (v.writes (Elt F) f [⟨Rect.unit ![0, 512] S8x1.size inb_S8x513_S8x1_0_512, n⟩, ⟨Rect.unit ![0, 0] S8x512.size inb_S8x513_S8x512_0_0, r⟩]) = joined r n := by
  funext y
  have h513 : (y 1).val < 513 := (y 1).isLt
  unfold joined
  split
  · rename_i h
    rw [View.read_writes_cons_unit_of_not_mem v f inb_S8x513_S8x1_0_512 n _ y rfl 1 (Or.inl h)]
    exact View.read_writes_cons_unit_of_mem v f inb_S8x513_S8x512_0_0 r [] y _ rfl (fun a => by revert a; exact Fin.forall_fin_two.mpr ⟨(Nat.zero_add _).symm, (Nat.zero_add _).symm⟩)
  · rename_i h
    exact View.read_writes_cons_unit_of_mem v f inb_S8x513_S8x1_0_512 n _ y _ rfl (fun a => by
      revert a; exact Fin.forall_fin_two.mpr ⟨(Nat.zero_add _).symm, by show (y 1).val = 512 + 0; omega⟩)

/-- Three columns written one by one, read back. -/
theorem read_three {sp : Space} {e : EltTy} (v : View sig .tc sp S8x3 e) (f : v.ty.Contents (Elt F)) (a b c : Vec F S8x1 e) :
    v.read (Elt F) (v.writes (Elt F) f [⟨Rect.unit ![0, 2] S8x1.size inb_S8x3_S8x1_0_2, c⟩, ⟨Rect.unit ![0, 1] S8x1.size inb_S8x3_S8x1_0_1, b⟩,
      ⟨Rect.unit ![0, 0] S8x1.size inb_S8x3_S8x1_0_0, a⟩]) = three a b c := by
  funext y
  have h3 : (y 1).val < 3 := (y 1).isLt
  unfold three
  by_cases h0 : (y 1).val = 0
  · rw [if_pos h0, View.read_writes_cons_unit_of_not_mem v f inb_S8x3_S8x1_0_2 c _ y rfl 1 (Or.inl (by show (y 1).val < 2; omega)),
      View.read_writes_cons_unit_of_not_mem v f inb_S8x3_S8x1_0_1 b _ y rfl 1 (Or.inl (by show (y 1).val < 1; omega))]
    exact View.read_writes_cons_unit_of_mem v f inb_S8x3_S8x1_0_0 a _ y _ rfl (fun a => by
      revert a; exact Fin.forall_fin_two.mpr ⟨(Nat.zero_add _).symm, by show (y 1).val = 0 + 0; omega⟩)
  rw [if_neg h0]
  by_cases h1 : (y 1).val = 1
  · rw [if_pos h1, View.read_writes_cons_unit_of_not_mem v f inb_S8x3_S8x1_0_2 c _ y rfl 1 (Or.inl (by show (y 1).val < 2; omega))]
    exact View.read_writes_cons_unit_of_mem v f inb_S8x3_S8x1_0_1 b _ y _ rfl (fun a => by
      revert a; exact Fin.forall_fin_two.mpr ⟨(Nat.zero_add _).symm, by show (y 1).val = 1 + 0; omega⟩)
  rw [if_neg h1]
  exact View.read_writes_cons_unit_of_mem v f inb_S8x3_S8x1_0_2 c _ y _ rfl (fun a => by
      revert a; exact Fin.forall_fin_two.mpr ⟨(Nat.zero_add _).symm, by show (y 1).val = 2 + 0; omega⟩)

set_option maxHeartbeats 2000000 in
/-- The merge kernel's body run once. -/
theorem run1 (c : Dev nD) (arg0 : Memref sig .tc .vmem S8x9 .f32) (h0 : arg0.IsWhole) (arg1 : Memref sig .tc .vmem S8x9 .i32) (h1 : arg1.IsWhole) (arg2 : Memref sig .tc .vmem S8x3 .f32) (h2 : arg2.IsWhole) (arg3 : Memref sig .tc .vmem S8x512 .i32) (h3 : arg3.IsWhole) (arg4 : Memref sig .tc .vmem S8x512 .i32) (h4 : arg4.IsWhole) (arg5 : Memref sig .tc .vmem S8x512 .i32) (h5 : arg5.IsWhole) (arg6 : Memref sig .tc .vmem S8x513 .i32) (h6 : arg6.IsWhole) (arg7 : Memref sig .tc .vmem S8x513 .i32) (h7 : arg7.IsWhole) (arg8 : Memref sig .tc .vmem S8x513 .i32) (h8 : arg8.IsWhole) (arg9 : Memref sig .tc .vmem S8x3 .f32) (h9 : arg9.IsWhole) (arg10 : Memref sig .tc .vmem S8x3 .i32) (h10 : arg10.IsWhole)
    (x0 : Vec F S8x9 .f32) (x1 : Vec F S8x9 .i32) (x2 : Vec F S8x3 .f32) (x3 : Vec F S8x512 .i32) (x4 : Vec F S8x512 .i32) (x5 : Vec F S8x512 .i32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (joined (mg x0 x1 x2 x3 x4 x5).r0 (mg x0 x1 x2 x3 x4 x5).n0) ∗ owns (c : Thread nD τ) arg7 fullShare (joined (mg x0 x1 x2 x3 x4 x5).r1 (mg x0 x1 x2 x3 x4 x5).n1) ∗ owns (c : Thread nD τ) arg8 fullShare (joined (mg x0 x1 x2 x3 x4 x5).r2 (mg x0 x1 x2 x3 x4 x5).n2) ∗ owns (c : Thread nD τ) arg9 fullShare (three (mg x0 x1 x2 x3 x4 x5).p0 (mg x0 x1 x2 x3 x4 x5).p1 (mg x0 x1 x2 x3 x4 x5).p2) ∗ owns (c : Thread nD τ) arg10 fullShare (three (mg x0 x1 x2 x3 x4 x5).c0 (mg x0 x1 x2 x3 x4 x5).c1 (mg x0 x1 x2 x3 x4 x5).c2)) -∗ K ⟨⟩))
          ⊢ wp frame (wpE (defs₀ (F := F)) Variants.none c none) E (cc1__beam_merge_kernel arg0 h0 arg1 h1 arg2 h2 arg3 h3 arg4 h4 arg5 h5 arg6 h6 arg7 h7 arg8 h8 arg9 h9 arg10 h10) K := by
  intro E K
  simp only [cc1__beam_merge_kernel_eq_skeleton]; unfold cc1__beam_merge_kernel_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  sl_exec
  sl_step
  iapply Hk
  have l0 : View.readAt (Elt F) arg0.view (Rect.unit ![0, 0] S8x9.size inb_S8x9_S8x9_0_0).toLoadRect f0 = x0 := (ld_full arg0.view f0 hz2 _).trans hf0
  have l1 : View.readAt (Elt F) arg1.view (Rect.unit ![0, 0] S8x9.size inb_S8x9_S8x9_0_0).toLoadRect f1 = x1 := (ld_full arg1.view f1 hz2 _).trans hf1
  have l2 : View.readAt (Elt F) arg2.view (Rect.unit ![0, 0] S8x3.size inb_S8x3_S8x3_0_0).toLoadRect f2 = x2 := (ld_full arg2.view f2 hz2 _).trans hf2
  have l3 : View.readAt (Elt F) arg3.view (Rect.unit ![0, 0] S8x512.size inb_S8x512_S8x512_0_0).toLoadRect f3 = x3 := (ld_full arg3.view f3 hz2 _).trans hf3
  have l4 : View.readAt (Elt F) arg4.view (Rect.unit ![0, 0] S8x512.size inb_S8x512_S8x512_0_0).toLoadRect f4 = x4 := (ld_full arg4.view f4 hz2 _).trans hf4
  have l5 : View.readAt (Elt F) arg5.view (Rect.unit ![0, 0] S8x512.size inb_S8x512_S8x512_0_0).toLoadRect f5 = x5 := (ld_full arg5.view f5 hz2 _).trans hf5
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]
  · iexists _; isplitr; swap; (· iexact H6); ipureintro
    refine (read_joined _ _ _ _).trans ?_; (try unfold run1.sl.r_27); (try unfold run1.sl.r_26); (try unfold run1.sl.r_25); (try unfold run1.sl.r_24); (try unfold run1.sl.r_23); (try unfold run1.sl.r_22); (try unfold run1.sl.r_21); (try unfold run1.sl.r_20); (try unfold run1.sl.r_19); (try unfold run1.sl.r_18); (try unfold run1.sl.r_17); (try unfold run1.sl.r_16); (try unfold run1.sl.r_15); (try unfold run1.sl.r_14); (try unfold run1.sl.r_13); (try unfold run1.sl.r_12); (try unfold run1.sl.r_11); (try unfold run1.sl.r_10); (try unfold run1.sl.r_9); (try unfold run1.sl.r_8); (try unfold run1.sl.r_7); (try unfold run1.sl.r_6); (try unfold run1.sl.r_5); (try unfold run1.sl.r_4); (try unfold run1.sl.r_3); (try unfold run1.sl.r_2); (try unfold run1.sl.r_1); (try unfold run1.sl.r); (try rw [l0]); (try rw [l1]); (try rw [l2]); (try rw [l3]); (try rw [l4]); (try rw [l5]); rfl
  isplitl [H7]
  · iexists _; isplitr; swap; (· iexact H7); ipureintro
    refine (read_joined _ _ _ _).trans ?_; (try unfold run1.sl.r_27); (try unfold run1.sl.r_26); (try unfold run1.sl.r_25); (try unfold run1.sl.r_24); (try unfold run1.sl.r_23); (try unfold run1.sl.r_22); (try unfold run1.sl.r_21); (try unfold run1.sl.r_20); (try unfold run1.sl.r_19); (try unfold run1.sl.r_18); (try unfold run1.sl.r_17); (try unfold run1.sl.r_16); (try unfold run1.sl.r_15); (try unfold run1.sl.r_14); (try unfold run1.sl.r_13); (try unfold run1.sl.r_12); (try unfold run1.sl.r_11); (try unfold run1.sl.r_10); (try unfold run1.sl.r_9); (try unfold run1.sl.r_8); (try unfold run1.sl.r_7); (try unfold run1.sl.r_6); (try unfold run1.sl.r_5); (try unfold run1.sl.r_4); (try unfold run1.sl.r_3); (try unfold run1.sl.r_2); (try unfold run1.sl.r_1); (try unfold run1.sl.r); (try rw [l0]); (try rw [l1]); (try rw [l2]); (try rw [l3]); (try rw [l4]); (try rw [l5]); rfl
  isplitl [H8]
  · iexists _; isplitr; swap; (· iexact H8); ipureintro
    refine (read_joined _ _ _ _).trans ?_; (try unfold run1.sl.r_27); (try unfold run1.sl.r_26); (try unfold run1.sl.r_25); (try unfold run1.sl.r_24); (try unfold run1.sl.r_23); (try unfold run1.sl.r_22); (try unfold run1.sl.r_21); (try unfold run1.sl.r_20); (try unfold run1.sl.r_19); (try unfold run1.sl.r_18); (try unfold run1.sl.r_17); (try unfold run1.sl.r_16); (try unfold run1.sl.r_15); (try unfold run1.sl.r_14); (try unfold run1.sl.r_13); (try unfold run1.sl.r_12); (try unfold run1.sl.r_11); (try unfold run1.sl.r_10); (try unfold run1.sl.r_9); (try unfold run1.sl.r_8); (try unfold run1.sl.r_7); (try unfold run1.sl.r_6); (try unfold run1.sl.r_5); (try unfold run1.sl.r_4); (try unfold run1.sl.r_3); (try unfold run1.sl.r_2); (try unfold run1.sl.r_1); (try unfold run1.sl.r); (try rw [l0]); (try rw [l1]); (try rw [l2]); (try rw [l3]); (try rw [l4]); (try rw [l5]); rfl
  isplitl [H9]
  · iexists _; isplitr; swap; (· iexact H9); ipureintro
    refine (read_three _ _ _ _ _).trans ?_; (try unfold run1.sl.r_27); (try unfold run1.sl.r_26); (try unfold run1.sl.r_25); (try unfold run1.sl.r_24); (try unfold run1.sl.r_23); (try unfold run1.sl.r_22); (try unfold run1.sl.r_21); (try unfold run1.sl.r_20); (try unfold run1.sl.r_19); (try unfold run1.sl.r_18); (try unfold run1.sl.r_17); (try unfold run1.sl.r_16); (try unfold run1.sl.r_15); (try unfold run1.sl.r_14); (try unfold run1.sl.r_13); (try unfold run1.sl.r_12); (try unfold run1.sl.r_11); (try unfold run1.sl.r_10); (try unfold run1.sl.r_9); (try unfold run1.sl.r_8); (try unfold run1.sl.r_7); (try unfold run1.sl.r_6); (try unfold run1.sl.r_5); (try unfold run1.sl.r_4); (try unfold run1.sl.r_3); (try unfold run1.sl.r_2); (try unfold run1.sl.r_1); (try unfold run1.sl.r); (try rw [l0]); (try rw [l1]); (try rw [l2]); (try rw [l3]); (try rw [l4]); (try rw [l5]); rfl
  iexists _; isplitr; swap; (· iexact H10); ipureintro
  refine (read_three _ _ _ _ _).trans ?_; (try unfold run1.sl.r_27); (try unfold run1.sl.r_26); (try unfold run1.sl.r_25); (try unfold run1.sl.r_24); (try unfold run1.sl.r_23); (try unfold run1.sl.r_22); (try unfold run1.sl.r_21); (try unfold run1.sl.r_20); (try unfold run1.sl.r_19); (try unfold run1.sl.r_18); (try unfold run1.sl.r_17); (try unfold run1.sl.r_16); (try unfold run1.sl.r_15); (try unfold run1.sl.r_14); (try unfold run1.sl.r_13); (try unfold run1.sl.r_12); (try unfold run1.sl.r_11); (try unfold run1.sl.r_10); (try unfold run1.sl.r_9); (try unfold run1.sl.r_8); (try unfold run1.sl.r_7); (try unfold run1.sl.r_6); (try unfold run1.sl.r_5); (try unfold run1.sl.r_4); (try unfold run1.sl.r_3); (try unfold run1.sl.r_2); (try unfold run1.sl.r_1); (try unfold run1.sl.r); (try rw [l0]); (try rw [l1]); (try rw [l2]); (try rw [l3]); (try rw [l4]); (try rw [l5]); rfl

end Cert.KernelIdeal.Own

end
-- ==== Proof.IReg0.lean ====
/-
  The projection region: relational proof data over the six grid points (the scratch state meets an invariant `Inv` the user
  chooses, the two results meet `P3` and `P4`), its body obligation, and its segment of @main.
-/
module

public import proofs.«01_k».proof.Proof.IRun1
public import proofs.«01_k».proof.Proof.Gen.KernelIdeal.Regions
public import Idealize.ShloMosaic.Lib.Pipeline.ArrRel
public import Idealize.ShloMosaic.Lib.Pipeline.FrameBody
public import Idealize.ShloMosaic.Lib.WholeRead
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf Seg HostSeg)

variable {F : FTy → Type} [FloatOps F] [Named F]
local notation "𝕄" => MT nD τ sig Unit (Elt F) ℕ UU ℕ

/-- The scoped buffers the projection region leaves alone. -/
abbrev restS (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f))

variable (m : (ℓ : Loc nD τ sig) → Buf (Elt F) ℓ)
variable (Inv : Dev nD → ℕ → St F → Prop) (P3 : Dev nD → Vec F S24x3 .f32 → Prop) (P4 : Dev nD → Vec F S24x3 .i32 → Prop)

/-- The scratch buffers at some state that meets the invariant once a point has run. -/
def Phi0 (c : Dev nD) (n : ℕ) : sProp 𝕄 :=
  iprop(∃ σ : St F, ⌜n ≠ 0 → Inv c n σ⌝ ∗ ownSt c (Memref.whole cc0_scratch0) (Memref.whole cc0_scratch1) (Memref.whole cc0_scratch2) (Memref.whole cc0_scratch3) σ ∗ restS c)

/-- The relational data of the projection region. -/
def rd0 (c : Dev nD) : RDat τ (Elt F) Unit ℕ UU ℕ cfg0 c where
  A w := V1 m c (Pipeline.arrRef spec0 w)
  after w t Y X := match w with
    | ⟨0, _⟩ => X = Y
    | ⟨1, _⟩ => X = Y
    | ⟨2, _⟩ => X = Y
    | ⟨3, _⟩ => t.val = 5 → P3 c X
    | ⟨4, _⟩ => t.val = 5 → P4 c X
  Φ t := Phi0 Inv c t.val
  q _ := fullShare
  owed _ := 0

/-- What the three fetches of a point may leave in the staging buffers. -/
def blkH (c : Dev nD) (d : Vec F S24x768 .f32) : Vec F S24x768 .f32 := (rd0 m Inv P3 P4 c).fetched 0 t0_0 d
/-- The block of weights at a point, what lies past the array filled from `d`. -/
def blkW (c : Dev nD) (t : Fin cfg0.N) (d : Vec F S5120x768 .f32) : Vec F S5120x768 .f32 := (rd0 m Inv P3 P4 c).fetched 1 t d
/-- The block of the bias at a point, likewise. -/
def blkB (c : Dev nD) (t : Fin cfg0.N) (d : Vec F S1x5120 .f32) : Vec F S1x5120 .f32 := (rd0 m Inv P3 P4 c).fetched 2 t d

/-- The invariant is kept by every point and gives the two results. -/
structure Keeps : Prop where
  step : ∀ (c : Dev nD) (t : Fin cfg0.N) d0 d1 d2 (σ : St F), (t.val ≠ 0 → Inv c t.val σ) →
    Inv c (t.val + 1) (next (grid0.coords t) (blkH m Inv P3 P4 c d0) (blkW m Inv P3 P4 c t d1) (blkB m Inv P3 P4 c t d2) σ)
  prob : ∀ (c : Dev nD) (σ : St F), Inv c 6 σ → P3 c σ.prob
  best : ∀ (c : Dev nD) (σ : St F), Inv c 6 σ → P4 c σ.i

/-- What a point finds staged. -/
theorem finds0 (c : Dev nD) : ∀ (n : ℕ) (t : Fin cfg0.N), t.val = n → ∀ Y, (rd0 m Inv P3 P4 c).Finds 0 t Y → ∃ d, Y = blkH m Inv P3 P4 c d := by
  intro n
  induction n with
  | zero =>
    intro t ht Y hY
    obtain rfl : t = t0_0 := Fin.ext ht
    exact ((rd0 m Inv P3 P4 c).finds_of_fetch ((fetch0_0 t0_0).mpr rfl) Y).mp hY
  | succ n ih =>
    intro t ht Y hY
    have hlt : t.val < 6 := Nat.lt_of_lt_of_eq t.isLt N_0
    have hf : (cfg0.win 0).fetch t = false := by
      rw [Bool.eq_false_iff]; intro h; have := (fetch0_0 t).mp h; omega
    rcases ((rd0 m Inv P3 P4 c).finds_of_pos hf (by omega) Y).mp hY with h | ⟨Z, hZ, hX⟩
    · exact absurd h (by rw [show (cfg0.win 0).flush _ = false from rfl]; exact Bool.false_ne_true)
    · have hX' : Y = Z := hX
      subst hX'
      exact ih _ (by show t.val - 1 = n; omega) _ hZ

/-- The last point is number five. -/
theorem cond2_iff : ∀ t : Fin cfg0.N, k0_cond2 (grid0.coords t) = 1#1 ↔ t.val = 5 := by
  intro t; rcases fin_N0 t with rfl | rfl | rfl | rfl | rfl | rfl <;> decide

/-- One point of the first region takes the invariant a step on, and at the last point the results are what it says. -/
theorem obl0 (hK : Keeps m Inv P3 P4) (c : Dev nD) : (rd0 m Inv P3 P4 c).BodyObligation (defs₀ (F := F)) Variants.none () Set.univ := fun t Y hY => by
  have h0 := finds0 m Inv P3 P4 c t.val t rfl (Y 0) (hY 0)
  have h1 := ((rd0 m Inv P3 P4 c).finds_of_fetch (fetch0_1 t) (Y 1)).mp (hY 1)
  have h2 := ((rd0 m Inv P3 P4 c).finds_of_fetch (fetch0_2 t) (Y 2)).mp (hY 2)
  obtain ⟨d0, h0⟩ := h0
  obtain ⟨d1, h1⟩ := h1
  obtain ⟨d2, h2⟩ := h2
  rw [bigSep_W0, bigSep_W0]
  rw [show (rd0 m Inv P3 P4 c).Φ t.castSucc = Phi0 Inv c t.val from rfl, show (rd0 m Inv P3 P4 c).Φ t.succ = Phi0 Inv c (t.val + 1) from rfl,
    show (rd0 m Inv P3 P4 c).owesAt () t.succ = (rd0 m Inv P3 P4 c).owesAt () t.castSucc from rfl]
  unfold Phi0
  iintro ⟨⟨%σ, %hσ, Hst, Hr⟩, Howes, H0, H1, H2, H3, H4⟩
  have hn : Inv c (t.val + 1) (next (grid0.coords t) (Y 0) (Y 1) (Y 2) σ) := by
    rw [h0, h1, h2]; exact hK.step c t d0 d1 d2 σ hσ
  iapply (run0 c (grid0.coords t) _ (hstage0_0 ((cfg0.slots t 0).cast nbuf0_0)) _ (hstage0_1 ((cfg0.slots t 1).cast nbuf0_1)) _ (hstage0_2 ((cfg0.slots t 2).cast nbuf0_2))
    _ (hstage0_3 ((cfg0.slots t 3).cast nbuf0_3)) _ (hstage0_4 ((cfg0.slots t 4).cast nbuf0_4)) _ (Memref.isWhole_whole _) _ (Memref.isWhole_whole _) _ (Memref.isWhole_whole _) _ (Memref.isWhole_whole _)
    (Y 0) (Y 1) (Y 2) (Y 3) (Y 4) σ Set.univ _)
  isplitl [H0]; · iexact H0
  isplitl [H1]; · iexact H1
  isplitl [H2]; · iexact H2
  isplitl [H3]; · iexact H3
  isplitl [H4]; · iexact H4
  isplitl [Hst]; · iexact Hst
  iintro ⟨H0, H1, H2, H3, H4, Hst⟩
  isplitl [Hst Hr]
  · iexists _
    isplitr; · ipureintro; exact fun _ => hn
    isplitl [Hst]; · iexact Hst
    iexact Hr
  isplitl [Howes]; · iexact Howes
  isplitl [H0]; · iexists _; isplitr; swap; (· iexact H0); ipureintro; exact rfl
  isplitl [H1]; · iexists _; isplitr; swap; (· iexact H1); ipureintro; exact rfl
  isplitl [H2]; · iexists _; isplitr; swap; (· iexact H2); ipureintro; exact rfl
  isplitl [H3]
  · iexists _; isplitr; swap; (· iexact H3); ipureintro
    intro h5
    rw [if_pos ((cond2_iff t).mpr h5)]
    rw [h5] at hn; exact hK.prob c _ hn
  iexists _; isplitr; swap; (· iexact H4); ipureintro
  intro h5
  rw [if_pos ((cond2_iff t).mpr h5)]
  rw [h5] at hn; exact hK.best c _ hn

/-- The two results of the region. -/
theorem arr3 (c : Dev nD) (G : Vec F S24x3 .f32) (hG : (rd0 m Inv P3 P4 c).ArrAt 3 cfg0.N G) : P3 c G := by
  obtain ⟨X, ⟨Y, _, hX⟩, hj⟩ := RDat.ArrAt.emb_eq_of_wholeAt hG (t₀ := t0_5) (by decide +kernel)
  have : G = X := funext fun j => hj j
  rw [this]; exact hX rfl

theorem arr4 (c : Dev nD) (G : Vec F S24x3 .i32) (hG : (rd0 m Inv P3 P4 c).ArrAt 4 cfg0.N G) : P4 c G := by
  obtain ⟨X, ⟨Y, _, hX⟩, hj⟩ := RDat.ArrAt.emb_eq_of_wholeAt hG (t₀ := t0_5) (by decide +kernel)
  have : G = X := funext fun j => hj j
  rw [this]; exact hX rfl

/-! ## The segment -/

/-- The scratch buffers held at whatever they hold are the state at some value. -/
theorem ownSt_of (c : Dev nD) (σ : St F) : (iprop((((c : Thread nD τ).loc cc0_scratch0) ↦{fullShare} (σ.m : Buf (Elt F) ((c : Thread nD τ).loc cc0_scratch0)))
      ∗ (((c : Thread nD τ).loc cc0_scratch1) ↦{fullShare} (σ.s : Buf (Elt F) ((c : Thread nD τ).loc cc0_scratch1)))
      ∗ (((c : Thread nD τ).loc cc0_scratch2) ↦{fullShare} (σ.v : Buf (Elt F) ((c : Thread nD τ).loc cc0_scratch2)))
      ∗ (((c : Thread nD τ).loc cc0_scratch3) ↦{fullShare} (σ.i : Buf (Elt F) ((c : Thread nD τ).loc cc0_scratch3)))) : sProp 𝕄)
    ⊢ ownSt c (Memref.whole cc0_scratch0) (Memref.whole cc0_scratch1) (Memref.whole cc0_scratch2) (Memref.whole cc0_scratch3) σ := by
  unfold ownSt
  simp only [owns_whole_eq]
  iintro ⟨H0, H1, H2, H3⟩
  isplitl [H0]; · iexists _; isplitr; swap; (· iexact H0); ipureintro; exact rfl
  isplitl [H1]; · iexists _; isplitr; swap; (· iexact H1); ipureintro; exact rfl
  isplitl [H2]; · iexists _; isplitr; swap; (· iexact H2); ipureintro; exact rfl
  iexists _; isplitr; swap; (· iexact H3); ipureintro; exact rfl

theorem of_ownSt (c : Dev nD) (σ : St F) : (ownSt c (Memref.whole cc0_scratch0) (Memref.whole cc0_scratch1) (Memref.whole cc0_scratch2) (Memref.whole cc0_scratch3) σ : sProp 𝕄)
    ⊢ iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)) := by
  unfold ownSt
  simp only [owns_whole_eq]
  iintro ⟨⟨%f0, -, H0⟩, ⟨%f1, -, H1⟩, ⟨%f2, -, H2⟩, ⟨%f3, -, H3⟩⟩
  isplitl [H0]; · iexists f0; iexact H0
  isplitl [H1]; · iexists f1; iexact H1
  isplitl [H2]; · iexists f2; iexact H2
  iexists f3; iexact H3

/-- Proof data for a pipeline a list does not enter: anything. -/
def junkR {cfg : Cfg sig Λ₀} (c : Dev nD) : RDat τ (Elt F) Unit ℕ UU ℕ cfg c where
  A _ := fun _ => Classical.arbitrary _
  after _ _ _ _ := True
  Φ _ := BI.emp
  q _ := fullShare
  owed _ := 0

def fam0 : (p : Fin 2) → (c : Dev nD) → RDat τ (Elt F) Unit ℕ UU ℕ (Pipeline.pin (pcfgs (F := F)) adm p) c
  | ⟨0, _⟩ => fun c => rd0 m Inv P3 P4 c
  | ⟨1, _⟩ => fun c => junkR c

abbrev L0 : GSem nD τ sig → Finset Unit := fun _ => ∅
abbrev lv0 : GSem nD τ sig → Unit → ℕ := fun _ _ => 0
/-- The core owes nothing. -/
abbrev owes0 (c : Dev nD) : sProp 𝕄 := iprop(∃ W, owes (c : Thread nD τ) (0 : CellTallies nD τ sig Unit) W)

/-- Region exit: the arrays at contents the data allow, all at once. -/
theorem arrays_out (rdats : (p : Fin 2) → (c : Dev nD) → RDat τ (Elt F) Unit ℕ UU ℕ (Pipeline.pin (pcfgs (F := F)) adm p) c) (p : Fin 2)
    (hw : Pipeline.WinFacts (Pipeline.pin (pcfgs (F := F)) adm p).spec) (harr : ∀ w, ((Pipeline.pin (pcfgs (F := F)) adm p).spec w).arr.IsWhole)
    (c : Dev nD) (hshare : ∀ w, (rdats p c).share w = fullShare) (n : ℕ) (V : (b : Ref sig .tc) → Buf (Elt F) ((c : Thread nD τ).loc b))
    (R : sProp 𝕄) (h : ∀ V' : (b : Ref sig .tc) → Buf (Elt F) ((c : Thread nD τ).loc b),
      (∀ w, (rdats p c).ArrAt w n (V' (Pipeline.arrRef (Pipeline.pin (pcfgs (F := F)) adm p).spec w))) →
      (∀ b, b ∉ Finset.univ.image (Pipeline.arrRef (Pipeline.pin (pcfgs (F := F)) adm p).spec) → V' b = V b) →
      (unscopedBufs c V' : sProp 𝕄) ⊢ R) :
    iprop((rdats p c).arraysAt n ∗ Pipeline.unscopedRest (Pipeline.pin (pcfgs (F := F)) adm p).spec c V) ⊢ R := by
  classical
  rw [Pipeline.RDat.arraysAt_eq pcfgs adm rdats p c harr hshare n]
  iintro ⟨Ha, Hr⟩
  ihave Ha' := (BI.bigSep_exists_pi Finset.univ (fun w F' => iprop(⌜(rdats p c).ArrAt w n F'⌝
      ∗ ((c.tc : Thread nD τ).loc (Pipeline.arrRef (Pipeline.pin (pcfgs (F := F)) adm p).spec w)) ↦{fullShare} F'))) $$ Ha
  icases Ha' with ⟨%Fs, Ha⟩
  ihave Ha2 := (BI.bigSep_pure_sep Finset.univ (fun w => (rdats p c).ArrAt w n (Fs w))
      (fun w => ((c.tc : Thread nD τ).loc (Pipeline.arrRef (Pipeline.pin (pcfgs (F := F)) adm p).spec w)) ↦{fullShare} Fs w)) $$ Ha
  icases Ha2 with ⟨%hFs, Ha⟩
  have hV : ∃ V' : (b : Ref sig .tc) → Buf (Elt F) ((c : Thread nD τ).loc b),
      (∀ w, V' (Pipeline.arrRef (Pipeline.pin (pcfgs (F := F)) adm p).spec w) = Fs w) ∧
      (∀ b, b ∉ Finset.univ.image (Pipeline.arrRef (Pipeline.pin (pcfgs (F := F)) adm p).spec) → V' b = V b) := by
    refine ⟨fun b => if hb : ∃ w, Pipeline.arrRef (Pipeline.pin (pcfgs (F := F)) adm p).spec w = b then hb.choose_spec ▸ Fs hb.choose else V b, ?_, ?_⟩
    · intro w
      have hb : ∃ w', Pipeline.arrRef (Pipeline.pin (pcfgs (F := F)) adm p).spec w' = Pipeline.arrRef (Pipeline.pin (pcfgs (F := F)) adm p).spec w := ⟨w, rfl⟩
      refine (dif_pos hb).trans ?_
      have key : ∀ w' (h' : Pipeline.arrRef (Pipeline.pin (pcfgs (F := F)) adm p).spec w' = Pipeline.arrRef (Pipeline.pin (pcfgs (F := F)) adm p).spec w),
          (h' ▸ Fs w' : Buf (Elt F) ((c : Thread nD τ).loc (Pipeline.arrRef (Pipeline.pin (pcfgs (F := F)) adm p).spec w))) = Fs w := by
        intro w' h'
        obtain rfl := hw.arr_inj h'
        rfl
      exact key _ _
    · intro b hb
      refine dif_neg ?_
      rintro ⟨w, rfl⟩
      exact hb (Finset.mem_image.mpr ⟨w, Finset.mem_univ _, rfl⟩)
  obtain ⟨V', h1, h2⟩ := hV
  iapply (h V' (fun w => by rw [h1 w]; exact hFs w (Finset.mem_univ w)) h2)
  rw [Pipeline.unscopedBufs_split (Pipeline.pin (pcfgs (F := F)) adm) p hw.arr_unscoped hw.arr_inj c V']
  isplitl [Ha]
  · iapply (Entails.of_eq (bigSep_congr (fun w _ => by rw [h1 w]) :
      (bigSep Finset.univ fun w => (((c.tc : Thread nD τ).loc (Pipeline.arrRef (Pipeline.pin (pcfgs (F := F)) adm p).spec w)) ↦{fullShare} Fs w : sProp 𝕄)) = _))
    iexact Ha
  · unfold Pipeline.unscopedRest
    iapply (Entails.of_eq (bigSep_congr (fun b hb => by rw [h2 b (Finset.mem_sdiff.mp hb).2]) :
      (bigSep ((Finset.univ.filter fun b : Ref sig .tc => ¬ b.isScoped) \ Finset.univ.image (Pipeline.arrRef (Pipeline.pin (pcfgs (F := F)) adm p).spec)) fun b => (((c.tc : Thread nD τ).loc b) ↦{fullShare} V b : sProp 𝕄)) = _))
    iexact Hr

/-- The buffers after the projection region, at given results. -/
def W2 (c : Dev nD) (a : Vec F S24x3 .f32) (b : Vec F S24x3 .i32) : Valuation τ sig (Elt F) :=
  Function.update (Function.update (V1 m c) main_v1_0 (a : (⟨S24x3, .f32⟩ : BufTy).Contents (Elt F))) main_v1_1 (b : (⟨S24x3, .i32⟩ : BufTy).Contents (Elt F))

theorem W2_b (c : Dev nD) (a : Vec F S24x3 .f32) (b : Vec F S24x3 .i32) : W2 m c a b main_v1_1 = (b : (⟨S24x3, .i32⟩ : BufTy).Contents (Elt F)) := by
  unfold W2; exact Function.update_self _ _ _
theorem W2_a (c : Dev nD) (a : Vec F S24x3 .f32) (b : Vec F S24x3 .i32) : W2 m c a b main_v1_0 = (a : (⟨S24x3, .f32⟩ : BufTy).Contents (Elt F)) := by
  unfold W2; rw [Function.update_of_ne (by decide)]; exact Function.update_self _ _ _
/-- The first region writes no other buffer. -/
theorem W2_ne (c : Dev nD) (a : Vec F S24x3 .f32) (b : Vec F S24x3 .i32) (r : Ref sig .tc) (h1 : r ≠ main_v1_1) (h0 : r ≠ main_v1_0) :
    W2 m c a b r = V1 m c r := by
  unfold W2
  rw [Function.update_of_ne (fun h => h1 (Proc.devRef_injective _ h)), Function.update_of_ne (fun h => h0 (Proc.devRef_injective _ h))]

set_option backward.isDefEq.respectTransparency.types false in
/-- The first region as a segment of the program. -/
def reg0 (hK : Keeps m Inv P3 P4) : Pipeline.RDat.RegionSeg (pcfgs (F := F)) adm (fam0 m Inv P3 P4) () defs₀ Variants.none L0 lv0 0 where
  win := (launch0).win.to₀
  block_pos := (launch0).block_pos
  stage_whole := (launch0).stage_whole
  K := PEmpty
  osem k := k.elim
  ho := Pipeline.OwnSemFacts.none _
  hbody c := obl0 m Inv P3 P4 hK c
  hwaits := Pipeline.RDat.hwaits_of_owed_zero _ _ _ _ L0 lv0 0 fun _ _ => rfl
  pre c := iprop(StableHlo.held (c : Thread nD τ) (Pipeline.ucRefs τ sig) (V1 m c) ∗ owes0 c)
  post c := iprop((∃ a b, ⌜P3 c a ∧ P4 c b⌝ ∗ StableHlo.held (c : Thread nD τ) (Pipeline.ucRefs τ sig) (W2 m c a b)) ∗ owes0 c)
  X _ := BI.emp
  Y _ := BI.emp
  Z c := iprop(Pipeline.unscopedRest (Ix := Unit) (Name := ℕ) (U := UU) (Lvl := ℕ) spec0 c (fun b => V1 m c b))
  hentry c := by
    rw [Pipeline.ownSems0_none]
    have hsplit := Pipeline.RDat.arrays_of_unscopedBufs (p := 0) (pcfgs (F := F)) adm (fam0 m Inv P3 P4) (launch0).win (launch0).arr_whole c
      ((fam0 m Inv P3 P4 0 c).share_full fun _ => rfl) (fun b => V1 m c b) fun _ => rfl
    rw [← Pipeline.unscopedBufs_held (Ix := Unit) (Name := ℕ) (U := UU) (Lvl := ℕ) c (V1 m c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (fam0 m Inv P3 P4 0 c).Φ 0 = Phi0 Inv c 0 from rfl]
    iintro ⟨-, -, Hr⟩
    ihave Hr := (Entails.of_eq (scopedRest0_eq (Ix := Unit) (Val := Elt F) (Name := ℕ) (U := UU) (Lvl := ℕ) c)) $$ Hr
    icases Hr with ⟨⟨%f0, H0⟩, ⟨%f1, H1⟩, ⟨%f2, H2⟩, ⟨%f3, H3⟩, Hr⟩
    unfold Phi0
    iexists (⟨f0, f1, f2, f3⟩ : St F)
    isplitr; · ipureintro; exact fun h => absurd rfl h
    isplitl [H0 H1 H2 H3]
    · iapply (ownSt_of c (⟨f0, f1, f2, f3⟩ : St F))
      isplitl [H0]; · iexact H0
      isplitl [H1]; · iexact H1
      isplitl [H2]; · iexact H2
      iexact H3
    iexact Hr
  hout c := by
    rw [Pipeline.ownSems0_none, show (fam0 m Inv P3 P4 0 c).Φ (Fin.last _) = Phi0 Inv c 6 from rfl]
    unfold Phi0
    iintro ⟨%σ, -, Hs, Hr⟩
    isplitr; · iempintro
    isplitr; · iempintro
    iapply (Entails.of_eq (scopedRest0_eq (Ix := Unit) (Val := Elt F) (Name := ℕ) (U := UU) (Lvl := ℕ) c).symm)
    ihave Hs := (of_ownSt c σ) $$ Hs
    icases Hs with ⟨H0, H1, H2, H3⟩
    isplitl [H0]; · iexact H0
    isplitl [H1]; · iexact H1
    isplitl [H2]; · iexact H2
    isplitl [H3]; · iexact H3
    iexact Hr
  hexit c := by
    have hjoin := arrays_out (fam0 m Inv P3 P4) 0 (launch0).win (launch0).arr_whole c ((fam0 m Inv P3 P4 0 c).share_full fun _ => rfl) cfg0.N
      (fun b => V1 m c b) (iprop(∃ a b, ⌜P3 c a ∧ P4 c b⌝ ∗ StableHlo.held (c : Thread nD τ) (Pipeline.ucRefs τ sig) (W2 m c a b))) (by
        intro V' hA hr
        have e : V' = fun b : Ref sig .tc => W2 m c (V' main_v1_0) (V' main_v1_1) b := by
          funext b
          by_cases h1 : b = main_v1_1
          · subst h1; exact (W2_b m c _ _).symm
          by_cases h0 : b = main_v1_0
          · subst h0; exact (W2_a m c _ _).symm
          have hW := W2_ne m c (V' main_v1_0) (V' main_v1_1) b h1 h0
          rw [hW]
          by_cases hb : b ∈ Finset.univ.image (Pipeline.arrRef spec0)
          · obtain ⟨w, -, rfl⟩ := Finset.mem_image.mp hb
            fin_cases w
            · exact (congrFun ((rd0 m Inv P3 P4 c).ArrAt_in 0 rfl cfg0.N) _).mp (hA 0)
            · exact (congrFun ((rd0 m Inv P3 P4 c).ArrAt_in 1 rfl cfg0.N) _).mp (hA 1)
            · exact (congrFun ((rd0 m Inv P3 P4 c).ArrAt_in 2 rfl cfg0.N) _).mp (hA 2)
            · exact absurd rfl h0
            · exact absurd rfl h1
          · exact hr b hb
        iintro H
        iexists (V' main_v1_0), (V' main_v1_1)
        isplitr
        · ipureintro; exact ⟨arr3 m Inv P3 P4 c _ (hA 3), arr4 m Inv P3 P4 c _ (hA 4)⟩
        rw [← Pipeline.unscopedBufs_held (Ix := Unit) (Name := ℕ) (U := UU) (Lvl := ℕ) c (W2 m c (V' main_v1_0) (V' main_v1_1)), ← e]
        iexact H)
    iintro ⟨Ha, HO, -, Hrest⟩
    imodintro
    isplitl [Ha Hrest]
    · iapply hjoin; isplitl [Ha] <;> iassumption
    unfold Pipeline.RDat.owesAt Pipeline.owesWithin
    icases HO with ⟨%W, -, HO⟩; iexists W; iexact HO

end Cert.KernelIdeal.Own

end
-- ==== Proof.IReg1.lean ====
/-
  The merge region from any valuation of the unscoped buffers: proof data, body obligation, and its segment of @main.
-/
module

public import proofs.«01_k».proof.Proof.IReg0
public import proofs.«01_k».proof.Proof.Gen.KernelIdeal.Regions
public import Idealize.ShloMosaic.Lib.Pipeline.ArrRel
public import Idealize.ShloMosaic.Lib.Pipeline.FrameBody
public import Idealize.ShloMosaic.Lib.WholeRead
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf Seg HostSeg)

variable {F : FTy → Type} [FloatOps F] [Named F]
local notation "𝕄" => MT nD τ sig Unit (Elt F) ℕ UU ℕ

variable (U : Dev nD → Valuation τ sig (Elt F))

/-- The merge's values at entry valuation `U`. -/
def gg (c : Dev nD) : Mg F :=
  mg (U c main_v3 : Vec F S8x9 .f32) (U c main_v4 : Vec F S8x9 .i32) (U c main_v5 : Vec F S8x3 .f32) (U c main_v7 : Vec F S8x512 .i32)
    (U c main_v9 : Vec F S8x512 .i32) (U c main_v11 : Vec F S8x512 .i32)

def out0 (c : Dev nD) : (⟨S8x513, .i32⟩ : BufTy).Contents (Elt F) := joined (gg U c).r0 (gg U c).n0
def out1 (c : Dev nD) : (⟨S8x513, .i32⟩ : BufTy).Contents (Elt F) := joined (gg U c).r1 (gg U c).n1
def out2 (c : Dev nD) : (⟨S8x513, .i32⟩ : BufTy).Contents (Elt F) := joined (gg U c).r2 (gg U c).n2
def out3 (c : Dev nD) : (⟨S8x3, .f32⟩ : BufTy).Contents (Elt F) := three (gg U c).p0 (gg U c).p1 (gg U c).p2
def out4 (c : Dev nD) : (⟨S8x3, .i32⟩ : BufTy).Contents (Elt F) := three (gg U c).c0 (gg U c).c1 (gg U c).c2

/-- The second region's data. -/
def rd1 (c : Dev nD) : RDat τ (Elt F) Unit ℕ UU ℕ cfg1 c where
  A w := U c (Pipeline.arrRef spec1 w)
  after w _ Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = out0 U c
    | ⟨7, _⟩ => X = out1 U c
    | ⟨8, _⟩ => X = out2 U c
    | ⟨9, _⟩ => X = out3 U c
    | ⟨10, _⟩ => X = out4 U c
  Φ _ := Pipeline.scopedRest spec1 c
  q _ := fullShare
  owed _ := 0

/-- What a fetch stages is the array itself. -/
theorem stg1_0 (c : Dev nD) (Y) (h : (rd1 U c).Finds 0 t1_0 Y) : Y = (U c main_v3 : Vec F S8x9 .f32) := by
  obtain ⟨d, rfl⟩ := ((rd1 U c).finds_of_fetch (fetch1_0 t1_0) Y).mp h
  have e : (rd1 U c).fetched 0 t1_0 d = ((cfg1.win 0).blk t1_0).view.read (Elt F) (U c (Pipeline.arrRef spec1 0)) := rfl
  rw [e]
  funext j
  refine congrArg (U c main_v3 : Vec F S8x9 .f32) (funext fun a => Fin.ext ?_)
  exact Pipeline.Window.rect_emb_val_of_index_zero win1_0 t1_0 a (by fin_cases a <;> decide) j
theorem stg1_1 (c : Dev nD) (Y) (h : (rd1 U c).Finds 1 t1_0 Y) : Y = (U c main_v4 : Vec F S8x9 .i32) := by
  obtain ⟨d, rfl⟩ := ((rd1 U c).finds_of_fetch (fetch1_1 t1_0) Y).mp h
  have e : (rd1 U c).fetched 1 t1_0 d = ((cfg1.win 1).blk t1_0).view.read (Elt F) (U c (Pipeline.arrRef spec1 1)) := rfl
  rw [e]
  funext j
  refine congrArg (U c main_v4 : Vec F S8x9 .i32) (funext fun a => Fin.ext ?_)
  exact Pipeline.Window.rect_emb_val_of_index_zero win1_1 t1_0 a (by fin_cases a <;> decide) j
theorem stg1_2 (c : Dev nD) (Y) (h : (rd1 U c).Finds 2 t1_0 Y) : Y = (U c main_v5 : Vec F S8x3 .f32) := by
  obtain ⟨d, rfl⟩ := ((rd1 U c).finds_of_fetch (fetch1_2 t1_0) Y).mp h
  have e : (rd1 U c).fetched 2 t1_0 d = ((cfg1.win 2).blk t1_0).view.read (Elt F) (U c (Pipeline.arrRef spec1 2)) := rfl
  rw [e]
  funext j
  refine congrArg (U c main_v5 : Vec F S8x3 .f32) (funext fun a => Fin.ext ?_)
  exact Pipeline.Window.rect_emb_val_of_index_zero win1_2 t1_0 a (by fin_cases a <;> decide) j
theorem stg1_3 (c : Dev nD) (Y) (h : (rd1 U c).Finds 3 t1_0 Y) : Y = (U c main_v7 : Vec F S8x512 .i32) := by
  obtain ⟨d, rfl⟩ := ((rd1 U c).finds_of_fetch (fetch1_3 t1_0) Y).mp h
  have e : (rd1 U c).fetched 3 t1_0 d = ((cfg1.win 3).blk t1_0).view.read (Elt F) (U c (Pipeline.arrRef spec1 3)) := rfl
  rw [e]
  funext j
  refine congrArg (U c main_v7 : Vec F S8x512 .i32) (funext fun a => Fin.ext ?_)
  exact Pipeline.Window.rect_emb_val_of_index_zero win1_3 t1_0 a (by fin_cases a <;> decide) j
theorem stg1_4 (c : Dev nD) (Y) (h : (rd1 U c).Finds 4 t1_0 Y) : Y = (U c main_v9 : Vec F S8x512 .i32) := by
  obtain ⟨d, rfl⟩ := ((rd1 U c).finds_of_fetch (fetch1_4 t1_0) Y).mp h
  have e : (rd1 U c).fetched 4 t1_0 d = ((cfg1.win 4).blk t1_0).view.read (Elt F) (U c (Pipeline.arrRef spec1 4)) := rfl
  rw [e]
  funext j
  refine congrArg (U c main_v9 : Vec F S8x512 .i32) (funext fun a => Fin.ext ?_)
  exact Pipeline.Window.rect_emb_val_of_index_zero win1_4 t1_0 a (by fin_cases a <;> decide) j
theorem stg1_5 (c : Dev nD) (Y) (h : (rd1 U c).Finds 5 t1_0 Y) : Y = (U c main_v11 : Vec F S8x512 .i32) := by
  obtain ⟨d, rfl⟩ := ((rd1 U c).finds_of_fetch (fetch1_5 t1_0) Y).mp h
  have e : (rd1 U c).fetched 5 t1_0 d = ((cfg1.win 5).blk t1_0).view.read (Elt F) (U c (Pipeline.arrRef spec1 5)) := rfl
  rw [e]
  funext j
  refine congrArg (U c main_v11 : Vec F S8x512 .i32) (funext fun a => Fin.ext ?_)
  exact Pipeline.Window.rect_emb_val_of_index_zero win1_5 t1_0 a (by fin_cases a <;> decide) j

/-- The merge's one point writes the five results. -/
theorem obl1 (c : Dev nD) : (rd1 U c).BodyObligation (defs₀ (F := F)) Variants.none () Set.univ := fun t Y hY => by
  obtain rfl := fin_N1 t
  have h0 := stg1_0 U c (Y 0) (hY 0)
  have h1 := stg1_1 U c (Y 1) (hY 1)
  have h2 := stg1_2 U c (Y 2) (hY 2)
  have h3 := stg1_3 U c (Y 3) (hY 3)
  have h4 := stg1_4 U c (Y 4) (hY 4)
  have h5 := stg1_5 U c (Y 5) (hY 5)
  rw [bigSep_W1, bigSep_W1]
  rw [show (rd1 U c).Φ t1_0.castSucc = Pipeline.scopedRest spec1 c from rfl, show (rd1 U c).Φ t1_0.succ = Pipeline.scopedRest spec1 c from rfl,
    show (rd1 U c).owesAt () t1_0.succ = (rd1 U c).owesAt () t1_0.castSucc from rfl]
  iintro ⟨HΦ, Howes, H0, H1, H2, H3, H4, H5, H6, H7, H8, H9, H10⟩
  iapply (run1 c _ (hstage1_0 0) _ (hstage1_1 0) _ (hstage1_2 0) _ (hstage1_3 0) _ (hstage1_4 0) _ (hstage1_5 0) _ (hstage1_6 0) _ (hstage1_7 0) _ (hstage1_8 0) _ (hstage1_9 0) _ (hstage1_10 0)
    (Y 0) (Y 1) (Y 2) (Y 3) (Y 4) (Y 5) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Howes]; · iexact Howes
  isplitl [H0]; · iexists _; isplitr; swap; (· iexact H0); ipureintro; exact rfl
  isplitl [H1]; · iexists _; isplitr; swap; (· iexact H1); ipureintro; exact rfl
  isplitl [H2]; · iexists _; isplitr; swap; (· iexact H2); ipureintro; exact rfl
  isplitl [H3]; · iexists _; isplitr; swap; (· iexact H3); ipureintro; exact rfl
  isplitl [H4]; · iexists _; isplitr; swap; (· iexact H4); ipureintro; exact rfl
  isplitl [H5]; · iexists _; isplitr; swap; (· iexact H5); ipureintro; exact rfl
  have hg : mg (Y 0) (Y 1) (Y 2) (Y 3) (Y 4) (Y 5) = gg U c := by rw [h0, h1, h2, h3, h4, h5]; rfl
  rw [hg]
  isplitl [H6]; · iexists _; isplitr; swap; (· iexact H6); ipureintro; exact rfl
  isplitl [H7]; · iexists _; isplitr; swap; (· iexact H7); ipureintro; exact rfl
  isplitl [H8]; · iexists _; isplitr; swap; (· iexact H8); ipureintro; exact rfl
  isplitl [H9]; · iexists _; isplitr; swap; (· iexact H9); ipureintro; exact rfl
  iexists _; isplitr; swap; (· iexact H10); ipureintro; exact rfl

theorem arr1_0 (c : Dev nD) (G) (hG : (rd1 U c).ArrAt 6 cfg1.N G) : G = out0 U c := by
  obtain ⟨X, ⟨Y, _, hX⟩, hj⟩ := RDat.ArrAt.emb_eq_of_wholeAt hG (t₀ := t1_0) (by decide +kernel)
  have h : G = X := funext fun j => hj j
  rw [h]; exact hX
theorem arr1_1 (c : Dev nD) (G) (hG : (rd1 U c).ArrAt 7 cfg1.N G) : G = out1 U c := by
  obtain ⟨X, ⟨Y, _, hX⟩, hj⟩ := RDat.ArrAt.emb_eq_of_wholeAt hG (t₀ := t1_0) (by decide +kernel)
  have h : G = X := funext fun j => hj j
  rw [h]; exact hX
theorem arr1_2 (c : Dev nD) (G) (hG : (rd1 U c).ArrAt 8 cfg1.N G) : G = out2 U c := by
  obtain ⟨X, ⟨Y, _, hX⟩, hj⟩ := RDat.ArrAt.emb_eq_of_wholeAt hG (t₀ := t1_0) (by decide +kernel)
  have h : G = X := funext fun j => hj j
  rw [h]; exact hX
theorem arr1_3 (c : Dev nD) (G) (hG : (rd1 U c).ArrAt 9 cfg1.N G) : G = out3 U c := by
  obtain ⟨X, ⟨Y, _, hX⟩, hj⟩ := RDat.ArrAt.emb_eq_of_wholeAt hG (t₀ := t1_0) (by decide +kernel)
  have h : G = X := funext fun j => hj j
  rw [h]; exact hX
theorem arr1_4 (c : Dev nD) (G) (hG : (rd1 U c).ArrAt 10 cfg1.N G) : G = out4 U c := by
  obtain ⟨X, ⟨Y, _, hX⟩, hj⟩ := RDat.ArrAt.emb_eq_of_wholeAt hG (t₀ := t1_0) (by decide +kernel)
  have h : G = X := funext fun j => hj j
  rw [h]; exact hX

/-- The buffers after the merge region. -/
def W4 (c : Dev nD) : Valuation τ sig (Elt F) :=
  Function.update (Function.update (Function.update (Function.update (Function.update (U c) main_v12_0 (out0 U c)) main_v12_1 (out1 U c)) main_v12_2 (out2 U c)) main_v12_3 (out3 U c)) main_v12_4 (out4 U c)

theorem W4_0 (c : Dev nD) : W4 U c main_v12_0 = out0 U c := by
  unfold W4; rw [Function.update_of_ne (by decide)]; rw [Function.update_of_ne (by decide)]; rw [Function.update_of_ne (by decide)]; rw [Function.update_of_ne (by decide)]; exact Function.update_self _ _ _
theorem W4_1 (c : Dev nD) : W4 U c main_v12_1 = out1 U c := by
  unfold W4; rw [Function.update_of_ne (by decide)]; rw [Function.update_of_ne (by decide)]; rw [Function.update_of_ne (by decide)]; exact Function.update_self _ _ _
theorem W4_2 (c : Dev nD) : W4 U c main_v12_2 = out2 U c := by
  unfold W4; rw [Function.update_of_ne (by decide)]; rw [Function.update_of_ne (by decide)]; exact Function.update_self _ _ _
theorem W4_3 (c : Dev nD) : W4 U c main_v12_3 = out3 U c := by
  unfold W4; rw [Function.update_of_ne (by decide)]; exact Function.update_self _ _ _
theorem W4_4 (c : Dev nD) : W4 U c main_v12_4 = out4 U c := by
  unfold W4; exact Function.update_self _ _ _
/-- The merge writes no other buffer. -/
theorem W4_ne (c : Dev nD) (r : Ref sig .tc) (h0 : r ≠ main_v12_0) (h1 : r ≠ main_v12_1) (h2 : r ≠ main_v12_2) (h3 : r ≠ main_v12_3) (h4 : r ≠ main_v12_4) : W4 U c r = U c r := by
  unfold W4
  rw [Function.update_of_ne (fun h => h4 (Proc.devRef_injective _ h)), Function.update_of_ne (fun h => h3 (Proc.devRef_injective _ h)), Function.update_of_ne (fun h => h2 (Proc.devRef_injective _ h)), Function.update_of_ne (fun h => h1 (Proc.devRef_injective _ h)), Function.update_of_ne (fun h => h0 (Proc.devRef_injective _ h))]

def fam1 : (p : Fin 2) → (c : Dev nD) → RDat τ (Elt F) Unit ℕ UU ℕ (Pipeline.pin (pcfgs (F := F)) adm p) c
  | ⟨0, _⟩ => fun c => junkR c
  | ⟨1, _⟩ => fun c => rd1 U c

set_option backward.isDefEq.respectTransparency.types false in
/-- The second region as a segment of the program. -/
def reg1 : Pipeline.RDat.RegionSeg (pcfgs (F := F)) adm (fam1 U) () defs₀ Variants.none L0 lv0 1 where
  win := launch1.win.to₀
  block_pos := launch1.block_pos
  stage_whole := launch1.stage_whole
  K := PEmpty
  osem k := k.elim
  ho := Pipeline.OwnSemFacts.none _
  hbody c := obl1 U c
  hwaits := Pipeline.RDat.hwaits_of_owed_zero _ _ _ _ L0 lv0 1 fun _ _ => rfl
  pre c := iprop(StableHlo.held (c : Thread nD τ) (Pipeline.ucRefs τ sig) (U c) ∗ owes0 c)
  post c := iprop(StableHlo.held (c : Thread nD τ) (Pipeline.ucRefs τ sig) (W4 U c) ∗ owes0 c)
  X _ := BI.emp
  Y _ := BI.emp
  Z c := iprop(Pipeline.unscopedRest (Ix := Unit) (Name := ℕ) (U := UU) (Lvl := ℕ) spec1 c (fun b => U c b))
  hentry c := by
    rw [Pipeline.ownSems0_none]
    have hsplit := Pipeline.RDat.arrays_of_unscopedBufs (p := 1) (pcfgs (F := F)) adm (fam1 U) launch1.win launch1.arr_whole c
      ((fam1 U 1 c).share_full fun _ => rfl) (fun b => U c b) fun _ => rfl
    rw [← Pipeline.unscopedBufs_held (Ix := Unit) (Name := ℕ) (U := UU) (Lvl := ℕ) c (U c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (fam1 U 1 c).Φ 0 = Pipeline.scopedRest spec1 c from rfl]
    iintro ⟨-, -, Hr⟩; iexact Hr
  hout c := by
    rw [Pipeline.ownSems0_none, show (fam1 U 1 c).Φ (Fin.last _) = Pipeline.scopedRest spec1 c from rfl]
    iintro Hr
    isplitr; · iempintro
    isplitr; · iempintro
    iexact Hr
  hexit c := by
    have hjoin := arrays_out (fam1 U) 1 launch1.win launch1.arr_whole c ((fam1 U 1 c).share_full fun _ => rfl) cfg1.N
      (fun b => U c b) (StableHlo.held (c : Thread nD τ) (Pipeline.ucRefs τ sig) (W4 U c)) (by
        intro V' hA hr
        have e : V' = fun b : Ref sig .tc => W4 U c b := by
          funext b
          by_cases h0 : b = main_v12_0
          · subst h0; exact (arr1_0 U c _ (hA 6)).trans (W4_0 U c).symm
          by_cases h1 : b = main_v12_1
          · subst h1; exact (arr1_1 U c _ (hA 7)).trans (W4_1 U c).symm
          by_cases h2 : b = main_v12_2
          · subst h2; exact (arr1_2 U c _ (hA 8)).trans (W4_2 U c).symm
          by_cases h3 : b = main_v12_3
          · subst h3; exact (arr1_3 U c _ (hA 9)).trans (W4_3 U c).symm
          by_cases h4 : b = main_v12_4
          · subst h4; exact (arr1_4 U c _ (hA 10)).trans (W4_4 U c).symm
          refine Eq.trans ?_ (W4_ne U c b h0 h1 h2 h3 h4).symm
          by_cases hb : b ∈ Finset.univ.image (Pipeline.arrRef spec1)
          · obtain ⟨w, -, rfl⟩ := Finset.mem_image.mp hb
            fin_cases w
            · exact (congrFun ((rd1 U c).ArrAt_in 0 rfl cfg1.N) _).mp (hA 0)
            · exact (congrFun ((rd1 U c).ArrAt_in 1 rfl cfg1.N) _).mp (hA 1)
            · exact (congrFun ((rd1 U c).ArrAt_in 2 rfl cfg1.N) _).mp (hA 2)
            · exact (congrFun ((rd1 U c).ArrAt_in 3 rfl cfg1.N) _).mp (hA 3)
            · exact (congrFun ((rd1 U c).ArrAt_in 4 rfl cfg1.N) _).mp (hA 4)
            · exact (congrFun ((rd1 U c).ArrAt_in 5 rfl cfg1.N) _).mp (hA 5)
            · exact absurd rfl h0
            · exact absurd rfl h1
            · exact absurd rfl h2
            · exact absurd rfl h3
            · exact absurd rfl h4
          · exact hr b hb
        rw [← Pipeline.unscopedBufs_held (Ix := Unit) (Name := ℕ) (U := UU) (Lvl := ℕ) c (W4 U c), ← e])
    iintro ⟨Ha, HO, -, Hrest⟩
    imodintro
    isplitl [Ha Hrest]
    · iapply hjoin; isplitl [Ha] <;> iassumption
    unfold Pipeline.RDat.owesAt Pipeline.owesWithin
    icases HO with ⟨%W, -, HO⟩; iexists W; iexact HO

end Cert.KernelIdeal.Own

end
-- ==== Proof.IRun.lean ====
/-
  The whole program: the two regions and the host operations around them, the projection region's results known only by
  what the chosen invariant says of them.
-/
module

public import proofs.«01_k».proof.Proof.IReg1
public import proofs.«01_k».proof.Proof.Gen.KernelIdeal.Regions
public import Idealize.ShloMosaic.Lib.Pipeline.ArrRel
public import Idealize.ShloMosaic.Lib.Pipeline.FrameBody
public import Idealize.ShloMosaic.Lib.WholeRead
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf Seg HostSeg)

variable {F : FTy → Type} [FloatOps F] [Named F]
local notation "𝕄" => MT nD τ sig Unit (Elt F) ℕ UU ℕ

/-- The launch's copy of the pipelines' ghost state, and the copy the two runs of segments draw on. -/
def EA : Emb (UR sig nD τ) (MT nD τ sig Unit (Elt F) ℕ UU ℕ) :=
  (Emb.inl : Emb (UR sig nD τ) UU).trans (uEmb (nD := nD) (τ := τ) (sig := sig) (Ix := Unit) (Val := Elt F) (Name := ℕ) (U := UU) (Lvl := ℕ)).toEmb
def EB : Emb (UR sig nD τ) (MT nD τ sig Unit (Elt F) ℕ UU ℕ) :=
  (Emb.inr : Emb (UR sig nD τ) UU).trans (uEmb (nD := nD) (τ := τ) (sig := sig) (Ix := Unit) (Val := Elt F) (Name := ℕ) (U := UU) (Lvl := ℕ)).toEmb
instance EA_lands : (EA : Emb (UR sig nD τ) 𝕄).LandsIn (upEmb : UEmb _ 𝕄) := by unfold EA; infer_instance
instance EB_lands : (EB : Emb (UR sig nD τ) 𝕄).LandsIn (upEmb : UEmb _ 𝕄) := by unfold EB; infer_instance

theorem ownU_both (a b : UR sig nD τ) : (ownU ((a, b) : UU) : sProp 𝕄) ⊢ iprop(BI.own (EA a) ∗ BI.own (EB b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op b)))

/-- The pipelines' ghost state at core `c`, the first pipeline's and the second's. -/
abbrev gst (p : Fin 2) (c : Dev nD) : sProp 𝕄 := Pipeline.ghostOn (pcfgs (F := F)) adm EB {p} c

theorem gst_both : (iprop((bigSep Finset.univ fun c : Dev nD => bigSep Finset.univ fun p => Pipeline.cellsGhost (Pipeline.pin (pcfgs (F := F)) adm) EB p c)
      ∗ (bigSep Finset.univ fun c : Dev nD => bigSep Finset.univ fun p => Pipeline.toksInit (Pipeline.pin (pcfgs (F := F)) adm) EB p c)) : sProp 𝕄)
    ⊢ bigSep Finset.univ fun c : Dev nD => iprop(gst 0 c ∗ gst 1 c) := by
  rw [← bigSep_sep']
  refine bigSep_mono fun c _ => ?_
  have h : (iprop(gst 0 c ∗ gst 1 c) : sProp 𝕄) = Pipeline.ghostOn (pcfgs (F := F)) adm EB Finset.univ c := by
    unfold gst Pipeline.ghostOn Pipeline.PerCore.ghostOn
    rw [BI.bigSep_sdiff_split (s := (Finset.univ : Finset (Fin 2))) (t := {0}) (Finset.subset_univ _)]
    rfl
  rw [h]
  unfold Pipeline.ghostOn Pipeline.PerCore.ghostOn
  rw [bigSep_sep']
  exact BI.Entails.refl _

variable (m : (ℓ : Loc nD τ sig) → Buf (Elt F) ℓ)

/-- The buffers after the host operations between the regions, and at the end, at given results of the first region. -/
def W3 (c : Dev nD) (a : Vec F S24x3 .f32) (b : Vec F S24x3 .i32) : Valuation τ sig (Elt F) := StableHlo.after hostOps1 (W2 m c a b)
/-- What every buffer holds at the end. -/
def W5 (c : Dev nD) (a : Vec F S24x3 .f32) (b : Vec F S24x3 .i32) : Valuation τ sig (Elt F) :=
  StableHlo.after hostOps2 (W4 (fun c => W3 m c a b) c)

/-- No operation writes an argument. -/
theorem W5_arg (c : Dev nD) (a b) (r : Ref sig .tc) (h2 : r ∉ hostOps2_W) (h1 : r ∉ hostOps1_W) (h0 : r ∉ hostOps0_W)
    (k4 : r ∉ ([main_v12_0, main_v12_1, main_v12_2, main_v12_3, main_v12_4] : List (Ref sig .tc))) (k1 : r ∉ ([main_v1_0, main_v1_1] : List (Ref sig .tc))) :
    W5 m c a b r = m ((c : Thread nD τ).loc r) := by
  unfold W5
  rw [StableHlo.after_of_writes_sub hostOps2 _ hostOps2_writes h2]
  simp only [List.mem_cons, List.not_mem_nil, or_false, not_or] at k4 k1
  rw [W4_ne _ c r k4.1 k4.2.1 k4.2.2.1 k4.2.2.2.1 k4.2.2.2.2]
  unfold W3
  rw [StableHlo.after_of_writes_sub hostOps1 _ hostOps1_writes h1, W2_ne m c a b r k1.2 k1.1, V1_of m c r h0]

variable (Inv : Dev nD → ℕ → St F → Prop) (P3 : Dev nD → Vec F S24x3 .f32 → Prop) (P4 : Dev nD → Vec F S24x3 .i32 → Prop)

abbrev hseg (ops : List (HloOp τ sig (Elt F))) (hs : ops.Forall fun op => op.bufs ⊆ StableHlo.tcRefs τ sig) (hf : ops.Forall fun op => op.fresh = ∅)
    (V : Dev nD → Valuation τ sig (Elt F)) : HostSeg (Ix := Unit) (Name := ℕ) (U := UU) (Lvl := ℕ) (pcfgs (F := F)) defs₀ Variants.none L0 lv0 :=
  HostSeg.ofOps _ _ _ _ _ (Pipeline.ucRefs τ sig) ops (fun op h => Pipeline.sub_ucRefs op ((List.forall_iff_forall_mem.mp hs) op h))
    (fun op h => (List.forall_iff_forall_mem.mp hf) op h) V owes0

abbrev segsA (hK : Keeps m Inv P3 P4) : List (Pipeline.RDat.Seg (pcfgs (F := F)) adm (fam0 m Inv P3 P4) () defs₀ Variants.none L0 lv0) :=
  [.host (hseg hostOps0 hostOps0_sub hostOps0_fresh (V0 m)), .region (reg0 m Inv P3 P4 hK)]

abbrev segsB (a b) : List (Pipeline.RDat.Seg (pcfgs (F := F)) adm (fam1 fun c => W3 m c a b) () defs₀ Variants.none L0 lv0) :=
  [.host (hseg hostOps1 hostOps1_sub hostOps1_fresh (fun c => W2 m c a b)), .region (reg1 fun c => W3 m c a b),
   .host (hseg hostOps2 hostOps2_sub hostOps2_fresh (W4 fun c => W3 m c a b))]

abbrev Pg := Prog (TpuEff nD τ sig (Elt F) (Pipeline.Sig Λ₀ (Fin 2) fun p => (pcfgs (F := F) p).Adm) .tc) PUnit
def progA : Pg (F := F) := Pipeline.chain [StableHlo.seq hostOps0, Prog.lift (.customCall (Pipeline.entry 0) ())]
def progB : Pg (F := F) := Pipeline.chain [StableHlo.seq hostOps1, Prog.lift (.customCall (Pipeline.entry 1) ()), StableHlo.seq hostOps2]

/-- The first half of the program is its segments one after the other. -/
theorem segsA_run (hK : Keeps m Inv P3 P4) : Pipeline.RDat.Seg.run (segsA m Inv P3 P4 hK) = progA := by
  rw [Pipeline.RDat.Seg.run_eq_chain]; rfl
/-- So is the second half. -/
theorem segsB_run (a b) : Pipeline.RDat.Seg.run (segsB m a b) = (progB : Pg (F := F)) := by
  rw [Pipeline.RDat.Seg.run_eq_chain]; rfl

/-- What is known at the end. -/
abbrev endSt (c : Dev nD) : sProp 𝕄 :=
  iprop(∃ a b, ⌜P3 c a ∧ P4 c b⌝ ∗ StableHlo.held (c : Thread nD τ) (Pipeline.ucRefs τ sig) (W5 m c a b))

set_option backward.isDefEq.respectTransparency.types false in
/-- @main as one stretch: the two runs of segments, the second at the results the first left. -/
def whole (hK : Keeps m Inv P3 P4) : HostSeg (Ix := Unit) (Name := ℕ) (U := UU) (Lvl := ℕ) (pcfgs (F := F)) defs₀ Variants.none L0 lv0 where
  prog := progA >>= fun _ => progB
  pre c := iprop(StableHlo.held (c : Thread nD τ) (Pipeline.ucRefs τ sig) (V0 m c) ∗ owes0 c ∗ gst 0 c ∗ gst 1 c)
  post c := iprop(endSt m P3 P4 c ∗ owes0 c)
  run c {β} k K := by
    rw [wp_bind, wp_bind, ← segsA_run m Inv P3 P4 hK]
    iintro ⟨Hk, Hbd, ⟨Hh, HO, Hg0, Hg1⟩, #Hla⟩
    iapply (Pipeline.RDat.wp_segs (pcfgs (F := F)) adm (fam0 m Inv P3 P4) () cellOf_inj EB defs₀ Variants.none L0 lv0 c (segsA m Inv P3 P4 hK) ({0} : Finset (Fin 2))
      (fun c => iprop(StableHlo.held (c : Thread nD τ) (Pipeline.ucRefs τ sig) (V0 m c) ∗ owes0 c))
      (fun c => iprop((∃ a b, ⌜P3 c a ∧ P4 c b⌝ ∗ StableHlo.held (c : Thread nD τ) (Pipeline.ucRefs τ sig) (W2 m c a b)) ∗ owes0 c))
      (by simp only [Pipeline.RDat.Seg.pipes_host, Pipeline.RDat.Seg.pipes_region, Pipeline.RDat.Seg.pipes_nil]; decide) (by simp only [Pipeline.RDat.Seg.pipes_host, Pipeline.RDat.Seg.pipes_region, Pipeline.RDat.Seg.pipes_nil]; decide) ⟨.rfl, .rfl, .rfl⟩)
    isplitl [Hk Hg1]
    · iintro ⟨Hbd, ⟨⟨%a, %b, %hab, Hh⟩, HO⟩⟩
      rw [← segsB_run m a b]
      iapply (Pipeline.RDat.wp_segs (pcfgs (F := F)) adm (fam1 fun c' => W3 m c' a b) () cellOf_inj EB defs₀ Variants.none L0 lv0 c (segsB m a b) (singleton (1 : Fin 2) : Finset (Fin 2))
        (fun c => iprop(StableHlo.held (c : Thread nD τ) (Pipeline.ucRefs τ sig) (W2 m c a b) ∗ owes0 c))
        (fun c => iprop(StableHlo.held (c : Thread nD τ) (Pipeline.ucRefs τ sig) (W5 m c a b) ∗ owes0 c))
        (by simp only [Pipeline.RDat.Seg.pipes_host, Pipeline.RDat.Seg.pipes_region, Pipeline.RDat.Seg.pipes_nil]; decide) (by simp only [Pipeline.RDat.Seg.pipes_host, Pipeline.RDat.Seg.pipes_region, Pipeline.RDat.Seg.pipes_nil]; decide) ⟨.rfl, .rfl, .rfl, .rfl⟩)
      isplitl [Hk]
      · iintro ⟨Hbd, Hh, HO⟩
        iapply Hk
        isplitl [Hbd]; · iexact Hbd
        isplitl [Hh]
        · iexists a, b
          isplitr; · ipureintro; exact hab
          iexact Hh
        iexact HO
      isplitl [Hbd]; · iexact Hbd
      isplitl [Hh HO]
      · isplitl [Hh] <;> iassumption
      isplitr; · iexact Hla
      iexact Hg1
    isplitl [Hbd]; · iexact Hbd
    isplitl [Hh HO]
    · isplitl [Hh] <;> iassumption
    isplitr; · iexact Hla
    iexact Hg0

/-- The end states of the program: the arguments as launched, and the results read off the last valuation. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ ∃ a b, (P3 c a ∧ P4 c b) ∧ s.mem ((c : Thread nD τ).loc main_v17) = W5 m c a b main_v17
    ∧ s.mem ((c : Thread nD τ).loc main_v18) = W5 m c a b main_v18 ∧ s.mem ((c : Thread nD τ).loc main_v21) = W5 m c a b main_v21

def u₀ : UU := (initOf (Pipeline.cells cfgs cellOf_inj) (Pipeline.launchToks cfgs cellOf_inj), initOf (Pipeline.cells cfgs cellOf_inj) (Pipeline.launchToks cfgs cellOf_inj))

set_option backward.isDefEq.respectTransparency.types false in
/-- The whole program runs and ends as `Ends` says, with every semaphore at zero, for any invariant that a step keeps. -/
theorem run_main (ρ : Dev nD → PrngReg) (hK : Keeps m Inv P3 P4) :
    θ_run defs (onTc (τ := τ) (main (F := F))) ⟨m, fun _ => 0, ρ⟩ (fun r => (∀ c : Dev nD, Ends m P3 P4 c r.2) ∧ r.2.sem = fun _ => 0) := by
  refine Pipeline.RDat.θ_run_regions_kit_dev_sems (pcfgs (F := F)) adm (fam0 m Inv P3 P4) () cellOf_inj EA defs₀ Variants.none L0 lv0 m ρ main
    (fun _ => [.host (whole m Inv P3 P4 hK)])
    (fun c Q => by
      rewrite [main_chain c]
      refine Entails.of_eq ?_
      congr 1)
    (fun c => by simp only [Pipeline.RDat.Seg.pipes_host, Pipeline.RDat.Seg.pipes_nil]; decide) 0 (fun _ _ => rfl)
    (G := fun c => iprop(gst 0 c ∗ gst 1 c)) (u₀ := u₀)
    (hu₀ := by
      unfold u₀
      iintro Hu
      ihave H := (ownU_both _ _) $$ Hu
      icases H with ⟨HP, HG⟩
      imod (Pipeline.fund_ghost (Pipeline.pin (pcfgs (F := F)) adm) EB cellOf_inj) $$ HG with HG
      imodintro
      isplitl [HP]; · iexact HP
      iapply gst_both; iexact HG)
    (T₀ := fun c => iprop(StableHlo.held (c : Thread nD τ) (Pipeline.ucRefs τ sig) (V0 m c) ∗ owes0 c ∗ gst 0 c ∗ gst 1 c))
    (Tₙ := fun c => endSt m P3 P4 c)
    (hch := fun c => ⟨.rfl, .rfl⟩)
    (hinit := by
      refine Pipeline.initEach L0 lv0 fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, Hg⟩, -⟩
      imodintro
      isplitl [Hh]; · iexact Hh
      isplitl [HO]; · iexists ∅; iexact HO
      iexact Hg)
    (QY := fun c s => Ends m P3 P4 c s)
    (hfin := fun c s' => by
      show iprop((∃ a b, ⌜P3 c a ∧ P4 c b⌝ ∗ StableHlo.held (c : Thread nD τ) (Pipeline.ucRefs τ sig) (W5 m c a b)) ∗ SI s') ⊢ _
      unfold StableHlo.held
      iintro ⟨⟨%a, %b, %hab, Hh⟩, HSI⟩
      ihave Hr := (pointsTo_read_all (Pipeline.ucRefs τ sig) (fun b => ((c : Thread nD τ).1, b)) (W5 m c a b) s') $$ [Hh HSI]
      · isplitl [Hh] <;> iassumption
      icases Hr with ⟨%h, HSI⟩
      imodintro
      isplitr
      · ipureintro
        have rd : ∀ r : Ref sig .tc, ¬ (Proc.devRef .tc r : DevRef τ sig).isScoped → s'.mem.mem ((c : Thread nD τ).loc r) = W5 m c a b r := fun r hr =>
          h (Proc.devRef .tc r) (Finset.mem_filter.mpr ⟨StableHlo.devRef_mem_tcRefs r, hr⟩)
        exact ⟨⟨(rd main_arg0 (by decide)).trans (W5_arg m c a b main_arg0 (by decide) (by decide) (by decide) (by decide) (by decide)),
          (rd main_arg1 (by decide)).trans (W5_arg m c a b main_arg1 (by decide) (by decide) (by decide) (by decide) (by decide)),
          (rd main_arg2 (by decide)).trans (W5_arg m c a b main_arg2 (by decide) (by decide) (by decide) (by decide) (by decide)),
          (rd main_arg3 (by decide)).trans (W5_arg m c a b main_arg3 (by decide) (by decide) (by decide) (by decide) (by decide)),
          (rd main_arg4 (by decide)).trans (W5_arg m c a b main_arg4 (by decide) (by decide) (by decide) (by decide) (by decide))⟩,
          a, b, hab, rd main_v17 (by decide), rd main_v18 (by decide), rd main_v21 (by decide)⟩
      · iexact HSI)
    (hQ := fun _ h hz => ⟨h, funext fun g => hz g (.inr (regions_no_unscoped g.2))⟩)

/-- The frame: nothing asked of the results. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => (h.1 c).1, h.2⟩)
    (run_main m (fun _ _ _ => True) (fun _ _ => True) (fun _ _ => True) ρ ⟨fun _ _ _ _ _ _ _ => trivial, fun _ _ _ => trivial, fun _ _ _ => trivial⟩)

end Cert.KernelIdeal.Own

end
-- ==== Proof.Best.lean ====
module

public import Idealize.ShloMosaic.Lib.Pointwise
public import Idealize.ShloMosaic.Lib.SortFacts

@[expose] public section

set_option maxRecDepth 16384

/-!
The three best of a row: what they are, that they are unique, that three rounds of "take the first greatest, strike it out"
find them, that the three best of a prefix and of the next stretch give the three best of both, and that the host's top-k
of three returns them.
-/

namespace Cert.Best
open Idealize.ShloMosaic

section order
variable {ι : Type} [LinearOrder ι]

/-- Column `a` goes before column `b`: it is greater, or equal and further left. -/
def Better (f : ι → EReal) (a b : ι) : Prop := f b < f a ∨ (f a = f b ∧ a < b)

/-- Going before is transitive. -/
theorem Better.trans {f : ι → EReal} {a b c : ι} (h : Better f a b) (h' : Better f b c) : Better f a c := by
  rcases h with h | ⟨h, l⟩ <;> rcases h' with h' | ⟨h', l'⟩
  · exact .inl (h'.trans h)
  · exact .inl (h' ▸ h)
  · exact .inl (h ▸ h')
  · exact .inr ⟨h.trans h', l.trans l'⟩

/-- No two columns go before each other. -/
theorem Better.asymm {f : ι → EReal} {a b : ι} (h : Better f a b) (h' : Better f b a) : False := by
  rcases h.trans h' with h | ⟨_, h⟩ <;> exact lt_irrefl _ h

/-- A column does not go before itself. -/
theorem Better.ne {f : ι → EReal} {a b : ι} (h : Better f a b) : a ≠ b := fun e => by subst e; exact h.asymm h

/-- What goes before is at least as great. -/
theorem Better.le {f : ι → EReal} {a b : ι} (h : Better f a b) : f b ≤ f a := h.elim le_of_lt fun h => h.1.ge

/-- Of two columns one goes before the other. -/
theorem better_total {f : ι → EReal} {a b : ι} (h : a ≠ b) : Better f a b ∨ Better f b a := by
  rcases lt_trichotomy (f a) (f b) with l | e | l
  · exact .inr (.inl l)
  · rcases lt_or_gt_of_ne h with l | l
    · exact .inl (.inr ⟨e, l⟩)
    · exact .inr (.inr ⟨e.symm, l⟩)
  · exact .inl (.inl l)

/-- `i` lists the three best columns of `S`, best first. -/
structure Best (f : ι → EReal) (S : ι → Prop) (i : Fin 3 → ι) : Prop where
  mem : ∀ q, S (i q)
  o1 : Better f (i 0) (i 1)
  o2 : Better f (i 1) (i 2)
  rest : ∀ k, S k → (∀ q, k ≠ i q) → Better f (i 2) k

namespace Best
variable {f : ι → EReal} {S : ι → Prop} {i j : Fin 3 → ι}

/-- The first of the three goes before every other column. -/
theorem first (h : Best f S i) {k : ι} (hk : S k) (h0 : k ≠ i 0) : Better f (i 0) k := by
  by_cases h1 : k = i 1
  · exact h1 ▸ h.o1
  by_cases h2 : k = i 2
  · exact h2 ▸ h.o1.trans h.o2
  exact (h.o1.trans h.o2).trans (h.rest k hk (Fin.forall_fin_succ.2 ⟨h0, Fin.forall_fin_two.2 ⟨h1, h2⟩⟩))

/-- The second goes before every column but the first. -/
theorem second (h : Best f S i) {k : ι} (hk : S k) (h0 : k ≠ i 0) (h1 : k ≠ i 1) : Better f (i 1) k := by
  by_cases h2 : k = i 2
  · exact h2 ▸ h.o2
  exact h.o2.trans (h.rest k hk (Fin.forall_fin_succ.2 ⟨h0, Fin.forall_fin_two.2 ⟨h1, h2⟩⟩))

/-- The three best are unique. -/
theorem uniq (h : Best f S i) (h' : Best f S j) : i = j := by
  have e0 : i 0 = j 0 := by
    by_contra n
    exact (h.first (h'.mem 0) (Ne.symm n)).asymm (h'.first (h.mem 0) n)
  have e1 : i 1 = j 1 := by
    by_contra n
    exact (h.second (h'.mem 1) (e0 ▸ h'.o1.ne.symm) (Ne.symm n)).asymm (h'.second (h.mem 1) (e0 ▸ h.o1.ne.symm) n)
  have e2 : i 2 = j 2 := by
    by_contra n
    refine (h.rest (j 2) (h'.mem 2) ?_).asymm (h'.rest (i 2) (h.mem 2) ?_)
    · exact Fin.forall_fin_succ.2 ⟨e0 ▸ (h'.o1.trans h'.o2).ne.symm, Fin.forall_fin_two.2 ⟨e1 ▸ h'.o2.ne.symm, Ne.symm n⟩⟩
    · exact Fin.forall_fin_succ.2 ⟨e0 ▸ (h.o1.trans h.o2).ne.symm, Fin.forall_fin_two.2 ⟨e1 ▸ h.o2.ne.symm, n⟩⟩
  exact funext (Fin.forall_fin_succ.2 ⟨e0, Fin.forall_fin_two.2 ⟨e1, e2⟩⟩)

/-- A row in the same order has the same three best. -/
theorem of_better {g : ι → EReal} (h : Best f S i) (hg : ∀ a b, Better f a b → Better g a b) : Best g S i :=
  ⟨h.mem, hg _ _ h.o1, hg _ _ h.o2, fun k hk hn => hg _ _ (h.rest k hk hn)⟩

/-- The three stand in order. -/
theorem chain (h : Best f S i) {q q' : Fin 3} (l : q < q') : Better f (i q) (i q') := by
  fin_cases q <;> fin_cases q' <;> first | exact absurd l (by decide) | exact h.o1 | exact h.o2 | exact h.o1.trans h.o2

/-- The three are different. -/
theorem inj (h : Best f S i) {q q' : Fin 3} (e : i q = i q') : q = q' := by
  rcases lt_trichotomy q q' with l | l | l
  · exact absurd e (h.chain l).ne
  · exact l
  · exact absurd e.symm (h.chain l).ne
end Best

/-- Column `a` is the first greatest. -/
def Pick (f : ι → EReal) (a : ι) : Prop := ∀ k, k ≠ a → Better f a k

/-- The row with column `a` set to `z`. -/
def knock (z : EReal) (f : ι → EReal) (a : ι) : ι → EReal := fun k => if k = a then z else f k

/-- Striking out changes no other column. -/
theorem knock_ne {z : EReal} {f : ι → EReal} {a k : ι} (h : k ≠ a) : knock z f a k = f k := if_neg h
/-- What is struck out holds the given value. -/
theorem knock_self {z : EReal} {f : ι → EReal} {a : ι} : knock z f a a = z := if_pos rfl

/-- A picked column is above whatever some column is above. -/
theorem Pick.gt {z : EReal} {f : ι → EReal} {a k : ι} (h : Pick f a) (hk : z < f k) : z < f a := by
  by_cases e : k = a
  · exact e ▸ hk
  · exact hk.trans_le (h k e).le

/-- Going before depends on the two values alone. -/
theorem Better.congr {f g : ι → EReal} {a b : ι} (h : Better f a b) (ha : f a = g a) (hb : f b = g b) : Better g a b := by
  unfold Better at *; rw [← ha, ← hb]; exact h

/-- Three rounds of taking the first greatest and setting it to `z` find the three best of the columns above `z`, when there are
    three and the others are at `z`. -/
theorem best_of_picks {z : EReal} {f : ι → EReal} {S : ι → Prop} (hS : ∀ k, S k → z < f k) (hN : ∀ k, ¬ S k → f k = z)
    {t : Fin 3 → ι} (ht : ∀ q, S (t q)) (hi : Function.Injective t) {i : Fin 3 → ι} (h0 : Pick f (i 0)) (h1 : Pick (knock z f (i 0)) (i 1))
    (h2 : Pick (knock z (knock z f (i 0)) (i 1)) (i 2)) :
    Best f S i ∧ knock z f (i 0) (i 1) = f (i 1) ∧ knock z (knock z f (i 0)) (i 1) (i 2) = f (i 2) := by
  have memS : ∀ {k}, z < f k → S k := fun {k} h => by by_contra n; exact absurd (hN k n) h.ne'
  have g0 : z < f (i 0) := h0.gt (hS _ (ht 0))
  obtain ⟨q, hq⟩ : ∃ q : Fin 3, t q ≠ i 0 := by
    by_contra n; push Not at n
    exact absurd (hi ((n 0).trans (n 1).symm)) (by decide)
  have g1 : z < knock z f (i 0) (i 1) := h1.gt (k := t q) (by rw [knock_ne hq]; exact hS _ (ht q))
  have n1 : i 1 ≠ i 0 := fun e => by rw [e, knock_self] at g1; exact lt_irrefl _ g1
  have v1 : knock z f (i 0) (i 1) = f (i 1) := knock_ne n1
  obtain ⟨q', hq0, hq1⟩ : ∃ q : Fin 3, t q ≠ i 0 ∧ t q ≠ i 1 := by
    by_contra n; push Not at n
    have e : ∀ q, t q = i 0 ∨ t q = i 1 := fun q => or_iff_not_imp_left.2 (n q)
    rcases e 0 with a | a <;> rcases e 1 with b | b <;> rcases e 2 with c | c
    all_goals first
      | exact absurd (hi (a.trans b.symm)) (by decide)
      | exact absurd (hi (a.trans c.symm)) (by decide)
      | exact absurd (hi (b.trans c.symm)) (by decide)
  have g2 : z < knock z (knock z f (i 0)) (i 1) (i 2) := h2.gt (k := t q') (by rw [knock_ne hq1, knock_ne hq0]; exact hS _ (ht q'))
  have n21 : i 2 ≠ i 1 := fun e => by rw [e, knock_self] at g2; exact lt_irrefl _ g2
  have n20 : i 2 ≠ i 0 := fun e => by rw [knock_ne n21, e, knock_self] at g2; exact lt_irrefl _ g2
  have v2 : knock z (knock z f (i 0)) (i 1) (i 2) = f (i 2) := by rw [knock_ne n21, knock_ne n20]
  rw [v1] at g1; rw [v2] at g2
  refine ⟨⟨Fin.forall_fin_succ.2 ⟨memS g0, Fin.forall_fin_two.2 ⟨memS g1, memS g2⟩⟩, h0 _ n1,
    (h1 _ n21).congr v1 (knock_ne n20), fun k hk hn => (h2 k (hn 2)).congr v2 ?_⟩, v1, v2⟩
  rw [knock_ne (hn 1), knock_ne (hn 0)]

end order

section merge
variable {ι : Type} [LinearOrder ι] {f : ι → EReal} {A B : ι → Prop} {a b : Fin 3 → ι}

/-- Six columns: three, then three. -/
def six (a b : Fin 3 → ι) (j : Fin 6) : ι := if h : j.val < 3 then a ⟨j.val, h⟩ else b ⟨j.val - 3, by omega⟩

/-- The three best of the three best of a set and the three best of a set to its right are the three best of both. -/
theorem Best.merge (hA : Best f A a) (hB : Best f B b) (hAB : ∀ x y, A x → B y → x < y) {j : Fin 3 → Fin 6}
    (h : Best (fun k => f (six a b k)) (fun _ => True) j) : Best f (fun k => A k ∨ B k) (fun q => six a b (j q)) := by
  have sa : ∀ q : Fin 3, six a b (q.castLE (by decide)) = a q := fun q => dif_pos q.isLt
  have sb : ∀ q : Fin 3, six a b (q.addNat 3) = b q := fun q => by
    unfold six; rw [dif_neg (by simp)]; exact congrArg b (Fin.ext (by simp))
  have cases6 : ∀ k : Fin 6, (∃ q : Fin 3, k = q.castLE (by decide)) ∨ ∃ q : Fin 3, k = q.addNat 3 := by decide
  have mono : ∀ k k' : Fin 6, Better (fun k => f (six a b k)) k k' → Better f (six a b k) (six a b k') := by
    rintro k k' (l | ⟨e, l⟩)
    · exact .inl l
    refine .inr ⟨e, ?_⟩
    rcases cases6 k with ⟨q, rfl⟩ | ⟨q, rfl⟩ <;> rcases cases6 k' with ⟨q', rfl⟩ | ⟨q', rfl⟩
    · replace e := (congrArg f (sa q)).symm.trans (e.trans (congrArg f (sa q')))
      rw [sa, sa]
      rcases hA.chain (q := q) (q' := q') l with c | c
      · exact absurd e c.ne'
      · exact c.2
    · rw [sa, sb]; exact hAB _ _ (hA.mem q) (hB.mem q')
    · exact absurd l (by have := q'.isLt; rw [Fin.lt_def, Fin.val_addNat, Fin.val_castLE]; omega)
    · replace e := (congrArg f (sb q)).symm.trans (e.trans (congrArg f (sb q')))
      rw [sb, sb]
      rcases hB.chain (q := q) (q' := q') (by rw [Fin.lt_def, Fin.val_addNat, Fin.val_addNat] at l; exact Fin.lt_def.2 (by omega)) with c | c
      · exact absurd e c.ne'
      · exact c.2
  have ex : ∀ (e : Fin 3 → Fin 6) (he : Function.Injective e), (∃ q, e q = j 2) ∨ ∃ q, ∀ p, e q ≠ j p := fun e he => by
    by_contra n; push Not at n
    obtain ⟨n1, n2⟩ := n
    have c : ∀ q, e q = j 0 ∨ e q = j 1 := fun q => by
      obtain ⟨p, hp⟩ := n2 q
      fin_cases p
      · exact .inl hp
      · exact .inr hp
      · exact absurd hp (n1 q)
    rcases c 0 with x | x <;> rcases c 1 with y | y <;> rcases c 2 with z | z
    all_goals first
      | exact absurd (he (x.trans y.symm)) (by decide)
      | exact absurd (he (x.trans z.symm)) (by decide)
      | exact absurd (he (y.trans z.symm)) (by decide)
  refine ⟨fun q => ?_, mono _ _ h.o1, mono _ _ h.o2, fun k hk hn => ?_⟩
  · rcases cases6 (j q) with ⟨p, hp⟩ | ⟨p, hp⟩
    · exact .inl (by rw [hp, sa]; exact hA.mem p)
    · exact .inr (by rw [hp, sb]; exact hB.mem p)
  by_cases c : ∃ p, k = six a b p
  · obtain ⟨p, rfl⟩ := c
    exact mono _ _ (h.rest p trivial fun q e => hn q (by rw [e]))
  push Not at c
  have fin : ∀ (e : Fin 3 → Fin 6), Function.Injective e → (∀ q, Better f (six a b (e q)) k) → Better f (six a b (j 2)) k := by
    intro e he hb
    rcases ex e he with ⟨q, hq⟩ | ⟨q, hq⟩
    · exact hq ▸ hb q
    · exact (mono _ _ (h.rest (e q) trivial hq)).trans (hb q)
  have all : ∀ {S : ι → Prop} {s : Fin 3 → ι} (hs : Best f S s) (hk : S k) (hn : ∀ q, k ≠ s q) (q : Fin 3), Better f (s q) k := by
    intro S s hs hk hn q
    have := hs.rest k hk hn
    fin_cases q
    · exact (hs.o1.trans hs.o2).trans this
    · exact hs.o2.trans this
    · exact this
  rcases hk with hk | hk
  · refine fin (fun q => q.castLE (by decide)) (by decide) fun q => ?_
    rw [sa]; exact all hA hk (fun q => sa q ▸ c _) q
  · refine fin (fun q => q.addNat 3) (by decide) fun q => ?_
    rw [sb]; exact all hB hk (fun q => sb q ▸ c _) q

end merge

section words

/-- The signed minimum of words, over a finite set. -/
theorem fold_minsi {n : ℕ} (g : Fin n → BitVec 32) (k0 : Fin n) (h : ∀ k, (g k0).toInt ≤ (g k).toInt) :
    Finset.univ.fold IntOp.minsi 2147483647#32 g = g k0 := by
  have hmin : ∀ a b : BitVec 32, (IntOp.minsi a b).toInt = min a.toInt b.toInt := fun a b => by
    unfold IntOp.minsi
    simp only [BitVec.slt, decide_eq_true_eq, BitVec.sle]
    split <;> omega
  have key : ∀ s : Finset (Fin n), (g k0).toInt ≤ (s.fold IntOp.minsi 2147483647#32 g).toInt ∧
      (k0 ∈ s → (s.fold IntOp.minsi 2147483647#32 g).toInt ≤ (g k0).toInt) := by
    intro s
    induction s using Finset.induction_on with
    | empty =>
      refine ⟨?_, fun h => absurd h (Finset.notMem_empty _)⟩
      have := BitVec.toInt_le (x := g k0)
      rw [Finset.fold_empty]; exact le_trans (by simpa using BitVec.toInt_lt (x := g k0) |> Int.le_sub_one_of_lt) (by decide)
    | insert a s ha ih =>
      rw [Finset.fold_insert ha, hmin]
      refine ⟨le_min (h a) ih.1, fun hm => ?_⟩
      rcases Finset.mem_insert.1 hm with rfl | hm
      · exact min_le_left _ _
      · exact (min_le_right _ _).trans (ih.2 hm)
  exact BitVec.eq_of_toInt_eq (le_antisymm ((key _).2 (Finset.mem_univ _)) (key _).1)

/-- A small number is itself as a word read signed. -/
theorem toInt_ofNat {k : ℕ} (h : k < 2 ^ 31) : (BitVec.ofNat 32 k).toInt = k := by
  rw [BitVec.toInt_ofNat', Int.bmod_eq_of_le] <;> omega

/-- Small numbers with equal words are equal. -/
theorem ofNat_inj {a b : ℕ} (ha : a < 2 ^ 31) (hb : b < 2 ^ 31) : BitVec.ofNat 32 a = BitVec.ofNat 32 b ↔ a = b :=
  ⟨fun h => by have := congrArg BitVec.toInt h; rw [toInt_ofNat ha, toInt_ofNat hb] at this; omega, fun h => h ▸ rfl⟩

/-- The first greatest column of a row, as a maximum and a least column number attaining it. -/
theorem pick_of_fold {n : ℕ} (hn : 0 < n) (hb : n < 2 ^ 31) (f : Fin n → EReal) :
    ∃ k0 : Fin n, Finset.univ.fold max ⊥ f = f k0 ∧ Pick f k0 ∧
      (Finset.univ.fold IntOp.minsi 2147483647#32 fun k : Fin n => if f k = Finset.univ.fold max ⊥ f then BitVec.ofNat 32 k.val else BitVec.ofNat 32 n)
        = BitVec.ofNat 32 k0.val := by
  have le : ∀ k, f k ≤ Finset.univ.fold max ⊥ f := fun k => (Finset.le_fold_max (f k)).2 (.inr ⟨k, Finset.mem_univ _, le_rfl⟩)
  obtain ⟨k1, hk1⟩ : ∃ k, f k = Finset.univ.fold max ⊥ f := by
    haveI : Nonempty (Fin n) := ⟨⟨0, hn⟩⟩
    obtain ⟨k, -, hk⟩ := Finset.exists_max_image Finset.univ f Finset.univ_nonempty
    exact ⟨k, le_antisymm (le k) ((Finset.fold_max_le _).2 ⟨bot_le, fun x _ => hk x (Finset.mem_univ _)⟩)⟩
  have hne : (Finset.univ.filter fun k => f k = Finset.univ.fold max ⊥ f).Nonempty := ⟨k1, by simp [hk1]⟩
  obtain ⟨k0, hk0, hmin⟩ := Finset.exists_min_image _ (fun k : Fin n => k) hne
  have e0 : f k0 = Finset.univ.fold max ⊥ f := (Finset.mem_filter.1 hk0).2
  refine ⟨k0, e0.symm, fun k hk => ?_, ?_⟩
  · rcases (le k).lt_or_eq with l | e
    · exact .inl (e0 ▸ l)
    · exact .inr ⟨e0.trans e.symm, lt_of_le_of_ne (hmin k (by simp [e])) hk.symm⟩
  · refine (fold_minsi _ k0 fun k => ?_).trans (if_pos e0)
    simp only [if_pos e0]
    split
    · rename_i e
      rw [toInt_ofNat (by omega), toInt_ofNat (by omega)]
      exact_mod_cast Fin.le_def.1 (hmin k (by simp [e]))
    · rw [toInt_ofNat (by omega), toInt_ofNat hb]
      exact_mod_cast k0.isLt.le

/-- Choosing by a column number. -/
theorem select_col {α : Type} {n : ℕ} (hb : n < 2 ^ 31) (k k0 : Fin n) (a b : α) :
    Scalar.select (IntOp.cmpi .eq (BitVec.ofNat 32 k.val) (BitVec.ofNat 32 k0.val)) a b = if k = k0 then a else b := by
  have : (BitVec.ofNat 32 k.val = BitVec.ofNat 32 k0.val) ↔ k = k0 := (ofNat_inj (by omega) (by omega)).trans Fin.ext_iff.symm
  by_cases h : k = k0
  · subst h; simp [Scalar.select, IntOp.cmpi]
  · have e : (BitVec.ofNat 32 k.val == BitVec.ofNat 32 k0.val) = false := beq_eq_false_iff_ne.2 (mt this.1 h)
    rw [if_neg h, IntOp.cmpi, e]; rfl

/-- A sum of words with one column kept is that column's word. -/
theorem fold_addi_one {n : ℕ} (hb : n < 2 ^ 31) (v : Fin n → BitVec 32) (k0 : Fin n) :
    (Finset.univ.fold IntOp.addi 0#32 fun k : Fin n => Scalar.select (IntOp.cmpi .eq (BitVec.ofNat 32 k.val) (BitVec.ofNat 32 k0.val)) (v k) 0#32) = v k0 := by
  simp only [select_col hb]
  have : ∀ s : Finset (Fin n), s.fold IntOp.addi 0#32 (fun k => if k = k0 then v k else 0#32) = if k0 ∈ s then v k0 else 0#32 := by
    intro s
    induction s using Finset.induction_on with
    | empty => rfl
    | insert a s ha ih =>
      rw [Finset.fold_insert ha, ih]
      by_cases e : a = k0
      · subst e; simp [ha, IntOp.addi]
      · simp [e, Ne.symm e, IntOp.addi]
  rw [this, if_pos (Finset.mem_univ _)]

/-- Striking a column out by its number. -/
theorem knock_select {n : ℕ} (hb : n < 2 ^ 31) (z : EReal) (f : Fin n → EReal) (k k0 : Fin n) :
    Scalar.select (IntOp.cmpi .eq (BitVec.ofNat 32 k.val) (BitVec.ofNat 32 k0.val)) z (f k) = knock z f k0 k := by
  exact select_col hb k k0 z (f k)

end words

section topk

/-- Inserting keeps a list in order. -/
theorem pairwise_insert {n : ℕ} {f : Fin n → EReal} {R : Fin n → Fin n → Bool} (hR : ∀ a b, R a b = true ↔ f b < f a) (a : Fin n) (l : List (Fin n))
    (ha : ∀ b ∈ l, a < b) (hl : l.Pairwise (Better f)) : (insertBefore R a l).Pairwise (Better f) := by
  induction l with
  | nil => exact List.pairwise_singleton _ _
  | cons b l ih =>
    rw [List.pairwise_cons] at hl
    unfold insertBefore
    split
    · rename_i h
      refine List.pairwise_cons.2 ⟨fun c hc => ?_, ih (fun c hc => ha c (List.mem_cons_of_mem _ hc)) hl.2⟩
      rcases List.mem_cons.1 ((perm_insertBefore R a l).mem_iff.1 hc) with rfl | hc
      · exact .inl ((hR _ _).1 h)
      · exact hl.1 c hc
    · rename_i h
      have hab : Better f a b := by
        rcases (not_lt.1 (mt (hR b a).2 h)).lt_or_eq with l | e
        · exact .inl l
        · exact .inr ⟨e.symm, ha b List.mem_cons_self⟩
      refine List.pairwise_cons.2 ⟨fun c hc => ?_, List.pairwise_cons.2 hl⟩
      rcases List.mem_cons.1 hc with rfl | hc
      · exact hab
      · exact hab.trans (hl.1 c hc)

/-- The sort puts a list in order. -/
theorem pairwise_sort {n : ℕ} {f : Fin n → EReal} {R : Fin n → Fin n → Bool} (hR : ∀ a b, R a b = true ↔ f b < f a) (l : List (Fin n))
    (hl : l.Pairwise (· < ·)) : (stableSort R l).Pairwise (Better f) := by
  induction l with
  | nil => exact List.Pairwise.nil
  | cons a l ih =>
    rw [List.pairwise_cons] at hl
    unfold stableSort
    exact pairwise_insert hR a _ (fun b hb => hl.1 b ((perm_stableSort R l).mem_iff.1 hb)) (ih hl.2)

/-- The first three positions of the host's stable sort by "greater" are the three best. -/
theorem best_sorted {n : ℕ} (hn : 3 ≤ n) {f : Fin n → EReal} {R : Fin n → Fin n → Bool} (hR : ∀ a b, R a b = true ↔ f b < f a) :
    Best f (fun _ => True) (fun q => sortedFrom R (q.castLE hn)) := by
  have hp : ∀ a b : Fin (sortPositions n R).length, a < b → Better f ((sortPositions n R).get a) ((sortPositions n R).get b) :=
    List.pairwise_iff_get.mp (pairwise_sort hR (List.finRange n) (List.pairwise_lt_finRange n))
  have ho : ∀ a b : Fin n, a < b → Better f (sortedFrom R a) (sortedFrom R b) := fun a b h => hp _ _ h
  refine ⟨fun _ => trivial, ho _ _ (Fin.lt_def.2 Nat.zero_lt_one), ho _ _ (Fin.lt_def.2 Nat.one_lt_two), fun k _ hk => ?_⟩
  obtain ⟨p, rfl⟩ := sortedFrom_surjective R k
  refine ho _ _ ?_
  by_contra l
  rw [Fin.lt_def, not_lt] at l
  have l3 : p.val < 3 := lt_of_le_of_lt l (Nat.lt_succ_self 2)
  exact hk ⟨p.val, l3⟩ rfl

/-- The host's top-k of three along the rows: values and positions of the three best. -/
theorem topK_best {A N : ℕ} (hN : 3 ≤ N) (x : (⟨2, ![A, N]⟩ : Shape).Idx → EReal) (h : (⟨2, ![A, N]⟩ : Shape).Slices (fun _ => 0) ⟨2, ![A, 3]⟩) (r : Fin A) :
    ∃ i : Fin 3 → Fin N, Best (fun k => x (ix2 r k)) (fun _ => True) i ∧
      ∀ q : Fin 3, (Host.topK (s := ⟨2, ![A, N]⟩) ⟨2, ![A, 3]⟩ 1 (FloatOps.cmpfTotal (F := Ideal) (φ := .f32) .gt) x h).1 (ix2 r q) = x (ix2 r (i q))
        ∧ (Host.topK (s := ⟨2, ![A, N]⟩) ⟨2, ![A, 3]⟩ 1 (FloatOps.cmpfTotal (F := Ideal) (φ := .f32) .gt) x h).2 (ix2 r q) = BitVec.ofNat 32 (i q).val := by
  have al : ∀ (j : (⟨2, ![A, N]⟩ : Shape).Idx) (k : Fin N), j.along 1 k = ix2 (j 0) k := fun j k => funext (Fin.forall_fin_two.2 ⟨rfl, rfl⟩)
  have sl : ∀ {α : Type} (v : (⟨2, ![A, N]⟩ : Shape).Idx → α) (q : Fin 3),
      extractStridedSlice ⟨2, ![A, 3]⟩ (fun _ => 0) v h (ix2 r q) = v (ix2 r (q.castLE hN)) := fun v q =>
    congrArg v (funext (Fin.forall_fin_two.2 ⟨Fin.ext (Nat.zero_add _), Fin.ext (Nat.zero_add _)⟩))
  let idx : IVec (⟨2, ![A, N]⟩ : Shape) 32 := fun i => if hd : 1 < 2 then iotaInDim ⟨2, ![A, N]⟩ 32 ⟨1, hd⟩ i else 0#32
  let gt : EReal × BitVec 32 → EReal × BitVec 32 → BitVec 1 := fun l r => FloatOps.cmpfTotal (F := Ideal) (φ := .f32) .gt l.1 r.1
  let R (a : Fin A) (k k' : Fin N) : Bool := FloatOps.cmpfTotal (F := Ideal) (φ := .f32) .gt (x (ix2 a k)) (x (ix2 a k')) == 1#1
  have cg : ∀ J : (⟨2, ![A, N]⟩ : Shape).Idx,
      (fun k k' : Fin N => FloatOps.cmpfTotal (F := Ideal) (φ := .f32) .gt (x (J.along 1 k)) (x (J.along 1 k')) == 1#1) = R (J 0) := fun J =>
    funext fun k => funext fun k' => congrArg₂ (fun a b => FloatOps.cmpfTotal (F := Ideal) (φ := .f32) .gt (x a) (x b) == 1#1) (al J k) (al J k')
  have e1 : ∀ J, (Host.sort2 ⟨2, ![A, N]⟩ 1 gt x idx).1 J = x (ix2 (J 0) (sortedFrom (R (J 0)) (J 1))) := fun J => by
    rw [← cg J]; exact congrArg x (al J _)
  have e2 : ∀ J, (Host.sort2 ⟨2, ![A, N]⟩ 1 gt x idx).2 J = BitVec.ofNat 32 (sortedFrom (R (J 0)) (J 1) : Fin N).val := fun J => by
    rw [← cg J]; rfl
  refine ⟨_, best_sorted hN (R := R r) fun a b => ?_, fun q => ⟨(sl (Host.sort2 ⟨2, ![A, N]⟩ 1 gt x idx).1 q).trans (e1 _),
    (sl (Host.sort2 ⟨2, ![A, N]⟩ 1 gt x idx).2 q).trans (e2 _)⟩⟩
  show (FloatOps.cmpfTotal (F := Ideal) (φ := .f32) .gt (x (ix2 r a)) (x (ix2 r b)) == 1#1) = true ↔ _
  rw [Ideal.cmpfTotal_def]
  simp only [CmpDirection.ordered, Ideal.cmp, beq_iff_eq]
  by_cases h : x (ix2 r b) < x (ix2 r a) <;> simp [h]

end topk
end Cert.Best

end
-- ==== Proof.Tile.lean ====
module

public import proofs.«01_k».proof.Proof.IRun0
public import proofs.«01_k».proof.Proof.Best

@[expose] public section

set_option maxRecDepth 16384

/-! What one grid point of the first region computes in a row, over the extended reals. -/

noncomputable section
namespace Cert.KernelIdeal.Own
open Cert.KernelIdeal Cert.KernelIdeal.Gen Cert.Best Idealize.ShloMosaic Idealize.ShloMosaic.TcCoe Idealize.SL.Sem

/-- The named constant is −∞. -/
theorem neg_eq : (Named.named κ "neg" 0xF149F2CA#32 : Ideal .f32) = ⊥ := rfl

/-- The pattern a maximum starts from is −∞. -/
theorem ninf_eq : (Ideal.ofBits .f32 0xFF800000#32 : EReal) = ⊥ := by
  simp [Ideal.ofBits, Ideal.ieee]

/-- Row `r` of an array of rows. -/
abbrev rowOf {n : ℕ} (w : FVec Ideal ⟨2, ![24, n]⟩ .f32) (r : Fin 24) : Fin n → EReal := fun k => w (ix2 r k)

/-- A tile's three picks in a row: the values and the column numbers the point finds. -/
theorem tile_picks (w : FVec Ideal S24x5120 .f32) (jw : BitVec 32) (r : Fin 24) :
    ∃ t0 t1 t2 : Fin 5120, Pick (rowOf w r) t0 ∧ Pick (knock ⊥ (rowOf w r) t0) t1 ∧ Pick (knock ⊥ (knock ⊥ (rowOf w r) t0) t1) t2
      ∧ k0_pay12 w (ix2 r 0) = rowOf w r t0 ∧ k0_pay16 cols w (ix2 r 0) = knock ⊥ (rowOf w r) t0 t1
      ∧ k0_pay20 cols w (ix2 r 0) = knock ⊥ (knock ⊥ (rowOf w r) t0) t1 t2
      ∧ k0_pay14 jw cols w (ix2 r 0) = BitVec.ofNat 32 t0.val + jw * 5120#32
      ∧ k0_pay18 jw cols w (ix2 r 0) = BitVec.ofNat 32 t1.val + jw * 5120#32
      ∧ k0_pay21 jw cols w (ix2 r 0) = BitVec.ofNat 32 t2.val + jw * 5120#32 := by
  have hn : 0 < 5120 := by decide
  have hb : 5120 < 2 ^ 31 := by decide
  obtain ⟨t0, m0, p0, s0⟩ := pick_of_fold hn hb (rowOf w r)
  have c0 : k0_pay13 cols w (ix2 r 0) = BitVec.ofNat 32 t0.val := by
    rw [← s0]; pointwise [k0_pay13, k0_pay12, cols, ninf_eq]
  have w1 : rowOf (k0_pay15 cols w) r = knock ⊥ (rowOf w r) t0 := funext fun k => by
    rw [← knock_select hb, ← c0]; pointwise [k0_pay15, cols, neg_eq]
  obtain ⟨t1, m1, p1, s1⟩ := pick_of_fold hn hb (rowOf (k0_pay15 cols w) r)
  have c1 : k0_pay17 cols w (ix2 r 0) = BitVec.ofNat 32 t1.val := by
    rw [← s1]; pointwise [k0_pay17, k0_pay16, cols, ninf_eq]
  have w2 : rowOf (k0_pay19 cols w) r = knock ⊥ (rowOf (k0_pay15 cols w) r) t1 := funext fun k => by
    rw [← knock_select hb, ← c1]; pointwise [k0_pay19, cols, neg_eq]
  obtain ⟨t2, m2, p2, s2⟩ := pick_of_fold hn hb (rowOf (k0_pay19 cols w) r)
  refine ⟨t0, t1, t2, p0, w1 ▸ p1, ?_, ?_, ?_, ?_, ?_, ?_, ?_⟩
  · rw [← w1, ← w2]; exact p2
  · refine Eq.trans ?_ m0; pointwise [k0_pay12, ninf_eq]
  · rw [← w1, ← m1]; pointwise [k0_pay16, ninf_eq]
  · rw [← w1, ← w2, ← m2]; pointwise [k0_pay20, ninf_eq]
  · rw [← c0]; pointwise [k0_pay14]; rfl
  · rw [← c1]; pointwise [k0_pay18]; rfl
  · rw [← s2]; pointwise [k0_pay21, k0_pay20, cols, ninf_eq]; rfl

/-- The first column the point keeps, -/
theorem pay2_0 (v82 v83 : IVec S24x6 32) (v97 v115 : IVec S24x1 32) (v119 v122 : FVec Ideal S24x6 .f32) (r : Fin 24) :
    k0_pay2 v82 v83 v97 v115 v119 v122 (ix2 r 0) = v97 (ix2 r 0) := by
  pointwise [k0_pay2]
/-- and the second. -/
theorem pay2_1 (v82 v83 : IVec S24x6 32) (v97 v115 : IVec S24x1 32) (v119 v122 : FVec Ideal S24x6 .f32) (r : Fin 24) :
    k0_pay2 v82 v83 v97 v115 v119 v122 (ix2 r 1) = v115 (ix2 r 0) := by
  pointwise [k0_pay2]

/-- The third is read at the place the least column number names. -/
theorem pay2_2 (v82 : IVec S24x6 32) (v97 v115 : IVec S24x1 32) (v119 v122 : FVec Ideal S24x6 .f32) (r : Fin 24) {j : Fin 6}
    (h : (Finset.univ.fold IntOp.minsi 2147483647#32 fun k : Fin 6 => if rowOf v119 r k = rowOf v122 r k then BitVec.ofNat 32 k.val else 6#32) = BitVec.ofNat 32 j.val) :
    k0_pay2 v82 (iota .tc S24x6 32 [1] iota_S24x6_d1_w32) v97 v115 v119 v122 (ix2 r 2) = v82 (ix2 r j) := by
  pointwise [k0_pay2]
  refine (congrArg (fun B => Finset.univ.fold IntOp.addi 0#32 fun k : Fin 6 => Scalar.select (IntOp.cmpi .eq (BitVec.ofNat 32 k.val) B) (v82 (ix2 r k)) 0#32) h).trans ?_
  exact fold_addi_one (by decide) (fun k => v82 (ix2 r k)) j

section
variable {a0 a1 a2 : FVec Ideal S24x1 .f32} {i0 i1 i2 : IVec S24x1 32} {v : Vec Ideal S24x3 .f32} {i : Vec Ideal S24x3 .i32} {r : Fin 24} {j : Fin 6}
/-- The first column kept is the one at the place picked, -/
theorem pay26_apply (h : k0_pay25 a0 a1 a2 v (ix2 r 0) = BitVec.ofNat 32 j.val) : k0_pay26 a0 i0 a1 i1 a2 i2 v i (ix2 r 0) = k0_pay23 i0 i1 i2 i (ix2 r j) := by
  unfold k0_pay26
  revert h
  generalize k0_pay25 a0 a1 a2 v = g
  generalize k0_pay23 i0 i1 i2 i = g'
  intro h
  pointwise []
  rw [h]
  exact fold_addi_one (by decide) (fun k => g' (ix2 r k)) j
/-- and so is the second. -/
theorem pay30_apply (h : k0_pay29 a0 a1 a2 v (ix2 r 0) = BitVec.ofNat 32 j.val) : k0_pay30 a0 i0 a1 i1 a2 i2 v i (ix2 r 0) = k0_pay23 i0 i1 i2 i (ix2 r j) := by
  unfold k0_pay30
  revert h
  generalize k0_pay29 a0 a1 a2 v = g
  generalize k0_pay23 i0 i1 i2 i = g'
  intro h
  pointwise []
  rw [h]
  exact fold_addi_one (by decide) (fun k => g' (ix2 r k)) j
end

/-- The point's three picks of the six candidates in a row: what it keeps as values and as columns. -/
theorem six_picks (a0 a1 a2 : FVec Ideal S24x1 .f32) (i0 i1 i2 : IVec S24x1 32) (v : Vec Ideal S24x3 .f32) (i : Vec Ideal S24x3 .i32) (r : Fin 24) :
    ∃ j0 j1 j2 : Fin 6, Pick (rowOf (k0_pay22 a0 a1 a2 v) r) j0 ∧ Pick (knock ⊥ (rowOf (k0_pay22 a0 a1 a2 v) r) j0) j1
      ∧ Pick (knock ⊥ (knock ⊥ (rowOf (k0_pay22 a0 a1 a2 v) r) j0) j1) j2
      ∧ top6v a0 a1 a2 v (ix2 r 0) = rowOf (k0_pay22 a0 a1 a2 v) r j0
      ∧ top6v a0 a1 a2 v (ix2 r 1) = knock ⊥ (rowOf (k0_pay22 a0 a1 a2 v) r) j0 j1
      ∧ top6v a0 a1 a2 v (ix2 r 2) = knock ⊥ (knock ⊥ (rowOf (k0_pay22 a0 a1 a2 v) r) j0) j1 j2
      ∧ top6i a0 i0 a1 i1 a2 i2 v i (ix2 r 0) = k0_pay23 i0 i1 i2 i (ix2 r j0)
      ∧ top6i a0 i0 a1 i1 a2 i2 v i (ix2 r 1) = k0_pay23 i0 i1 i2 i (ix2 r j1)
      ∧ top6i a0 i0 a1 i1 a2 i2 v i (ix2 r 2) = k0_pay23 i0 i1 i2 i (ix2 r j2) := by
  have hn : 0 < 6 := by decide
  have hb : 6 < 2 ^ 31 := by decide
  obtain ⟨j0, m0, p0, s0⟩ := pick_of_fold hn hb (rowOf (k0_pay22 a0 a1 a2 v) r)
  have c0 : k0_pay25 a0 a1 a2 v (ix2 r 0) = BitVec.ofNat 32 j0.val := by
    rw [← s0]; pointwise [k0_pay25, k0_pay24, ninf_eq]
  have w1 : rowOf (k0_pay27 a0 a1 a2 v) r = knock ⊥ (rowOf (k0_pay22 a0 a1 a2 v) r) j0 := funext fun k => by
    rw [← knock_select hb, ← c0]; pointwise [k0_pay27, neg_eq]
  obtain ⟨j1, m1, p1, s1⟩ := pick_of_fold hn hb (rowOf (k0_pay27 a0 a1 a2 v) r)
  have c1 : k0_pay29 a0 a1 a2 v (ix2 r 0) = BitVec.ofNat 32 j1.val := by
    rw [← s1]; pointwise [k0_pay29, k0_pay28, ninf_eq]
  have w2 : rowOf (k0_pay31 a0 a1 a2 v) r = knock ⊥ (rowOf (k0_pay27 a0 a1 a2 v) r) j1 := funext fun k => by
    rw [← knock_select hb, ← c1]; pointwise [k0_pay31, neg_eq]
  obtain ⟨j2, m2, p2, s2⟩ := pick_of_fold hn hb (rowOf (k0_pay31 a0 a1 a2 v) r)
  refine ⟨j0, j1, j2, p0, w1 ▸ p1, ?_, ?_, ?_, ?_, ?_, ?_, ?_⟩
  · rw [← w1, ← w2]; exact p2
  · refine Eq.trans ?_ m0; pointwise [top6v, k0_pay1, k0_pay24, ninf_eq]
  · rw [← w1, ← m1]; pointwise [top6v, k0_pay1, k0_pay28, ninf_eq]
  · rw [← w1, ← w2, ← m2]; pointwise [top6v, k0_pay1, k0_pay32, ninf_eq]
  · exact (pay2_0 _ _ _ _ _ _ r).trans (pay26_apply c0)
  · exact (pay2_1 _ _ _ _ _ _ r).trans (pay30_apply c1)
  · refine pay2_2 _ _ _ _ _ r (Eq.trans ?_ s2)
    simp only [show ∀ k, rowOf (k0_pay33 a0 a1 a2 v) r k = Finset.univ.fold max ⊥ (rowOf (k0_pay31 a0 a1 a2 v) r) from fun k => by pointwise [k0_pay33, k0_pay32, ninf_eq]]

/-- The six candidates' values: the three kept, then the tile's three. -/
theorem six_vals (a0 a1 a2 : FVec Ideal S24x1 .f32) (v : Vec Ideal S24x3 .f32) (r : Fin 24) (k : Fin 6) :
    k0_pay22 a0 a1 a2 v (ix2 r k) = six (fun q : Fin 3 => (v (ix2 r q) : EReal)) ![a0 (ix2 r 0), a1 (ix2 r 0), a2 (ix2 r 0)] k := by
  fin_cases k <;> (pointwise [k0_pay22]) <;> rfl

/-- The six candidates' columns. -/
theorem six_cols (i0 i1 i2 : IVec S24x1 32) (i : Vec Ideal S24x3 .i32) (r : Fin 24) (k : Fin 6) :
    k0_pay23 i0 i1 i2 i (ix2 r k) = if h : k.val < 3 then i (ix2 r ⟨k.val, h⟩) else ![i0 (ix2 r 0), i1 (ix2 r 0), i2 (ix2 r 0)] ⟨k.val - 3, by omega⟩ := by
  fin_cases k <;> (pointwise [k0_pay23]) <;> rfl

/-- A tile's masked logit: the logit where the column is inside the vocabulary, else −∞. -/
theorem lg_apply (i : grid0.Coords) (h : Vec Ideal S24x768 .f32) (w : Vec Ideal S5120x768 .f32) (b : Vec Ideal S1x5120 .f32) (r : Fin 24) (k : Fin 5120) :
    lg i h w b (ix2 r k) = if (i 0).val * 5120 + k.val < 30522 then (∑ q : Fin 768, h (ix2 r q) * w (ix2 k q)) + b (ix2 0 k) else (⊥ : EReal) := by
  have hi : (i 0).val < 6 := (i 0).isLt
  have hk := k.isLt
  have e : IntOp.cmpi .slt (IntOp.addi (BitVec.ofNat 32 k.val) (Scalar.muli (BitVec.ofNat 32 (i 0).val) 5120#32)) 30522#32
      = BitVec.ofBool (decide ((i 0).val * 5120 + k.val < 30522)) := by
    have e1 : IntOp.addi (BitVec.ofNat 32 k.val) (Scalar.muli (BitVec.ofNat 32 (i 0).val) 5120#32) = BitVec.ofNat 32 ((i 0).val * 5120 + k.val) := by
      show BitVec.ofNat 32 k.val + BitVec.ofNat 32 (i 0).val * BitVec.ofNat 32 5120 = _
      rw [← BitVec.ofNat_mul, ← BitVec.ofNat_add, Nat.add_comm]
    rw [e1]
    show BitVec.ofBool (BitVec.slt _ _) = _
    rw [BitVec.slt, toInt_ofNat (by omega), show (30522#32 : BitVec 32).toInt = 30522 from by decide]
    exact congrArg BitVec.ofBool (decide_eq_decide.2 (by omega))
  pointwise [k0_pay8, neg_eq]
  rw [e]
  by_cases c : (i 0).val * 5120 + k.val < 30522
  · rw [if_pos c, decide_eq_true c]; rfl
  · rw [if_neg c, decide_eq_false c]; rfl

/-- The maximum and the sum a point leaves. -/
theorem ms_apply (i : grid0.Coords) (h : Vec Ideal S24x768 .f32) (w : Vec Ideal S5120x768 .f32) (b : Vec Ideal S1x5120 .f32) (m s : Vec Ideal S24x1 .f32) (r : Fin 24) :
    k0_pay11 (k0_pay9 i h w b m) (ix2 r 0) = max (m (ix2 r 0) : EReal) (Finset.univ.fold max ⊥ (rowOf (lg i h w b) r))
    ∧ k0_pay10 i h w b m s (ix2 r 0) = (s (ix2 r 0) : EReal) * Ideal.exp (m (ix2 r 0) - max (m (ix2 r 0) : EReal) (Finset.univ.fold max ⊥ (rowOf (lg i h w b) r)))
        + ∑ k : Fin 5120, Ideal.exp (rowOf (lg i h w b) r k - max (m (ix2 r 0) : EReal) (Finset.univ.fold max ⊥ (rowOf (lg i h w b) r))) := by
  constructor
  · pointwise [k0_pay11, k0_pay9, ninf_eq]
  · pointwise [k0_pay10, k0_pay9, ninf_eq]

/-- The probability stored from the kept values, the maximum and the sum. -/
theorem prob_apply (σ : St Ideal) (r : Fin 24) (q : Fin 3) :
    σ.prob (ix2 r q) = Ideal.div (Ideal.exp (σ.v (ix2 r q) - σ.m (ix2 r 0))) (σ.s (ix2 r 0)) := by
  unfold St.prob
  pointwise [k0_pay3]

end Cert.KernelIdeal.Own

end
-- ==== Proof.Row.lean ====
module

public import proofs.«01_k».proof.Proof.Best

@[expose] public section

/-!
One row of logits worked off in tiles: what the running maximum, the running sum and the three kept candidates are after a prefix of
the columns, and that one more tile keeps this true.
-/

noncomputable section

namespace Cert.Best
open Idealize.ShloMosaic

variable {N T n : ℕ} {x : Fin N → ℝ}

/-- A function of the columns, continued by zero. -/
def ext (g : Fin N → ℝ) (c : ℕ) : ℝ := if h : c < N then g ⟨c, h⟩ else 0

/-- The sum of the exponentials of the first `n` columns, each less column `a`. -/
def expSum (x : Fin N → ℝ) (a : Fin N) (n : ℕ) : ℝ := ∑ c ∈ Finset.range n, ext (fun k => Real.exp (x k - x a)) c

/-- What a row's running state holds once its first `n` columns have been seen: `a` are the three best of them. -/
structure RowSt (x : Fin N → ℝ) (n : ℕ) (a : Fin 3 → Fin N) (m s : EReal) (v : Fin 3 → EReal) (i : Fin 3 → BitVec 32) : Prop where
  best : Best (fun k => (x k : EReal)) (fun k => k.val < n) a
  v : ∀ q, v q = x (a q)
  i : ∀ q, i q = BitVec.ofNat 32 (a q).val
  m : m = x (a 0)
  s : s = (expSum x (a 0) n : EReal)

/-- A tile of the row: the columns from `n` on, −∞ past the row's end. -/
def IsTile (x : Fin N → ℝ) (n : ℕ) (w : Fin T → EReal) : Prop := ∀ k, w k = if h : n + k.val < N then (x ⟨n + k.val, h⟩ : EReal) else ⊥

/-- The maximum is the value at a position that beats all others. -/
theorem fold_of_pick {w : Fin T → EReal} {t : Fin T} (h : Pick w t) : Finset.univ.fold max ⊥ w = w t :=
  le_antisymm (Finset.fold_max_le _ |>.2 ⟨bot_le, fun k _ => by by_cases e : k = t; exacts [e ▸ le_rfl, (h k e).le]⟩)
    ((Finset.le_fold_max _).2 (.inr ⟨t, Finset.mem_univ _, le_rfl⟩))

/-- The three picks of a tile are the three best of its columns. -/
theorem tile_best {w : Fin T → EReal} (hw : IsTile x n w) (hT : 3 ≤ T) (hN : n + 3 ≤ N) {t0 t1 t2 : Fin T}
    (h0 : Pick w t0) (h1 : Pick (knock ⊥ w t0) t1) (h2 : Pick (knock ⊥ (knock ⊥ w t0) t1) t2) :
    ∃ b : Fin 3 → Fin N, Best (fun k => (x k : EReal)) (fun k => n ≤ k.val ∧ k.val < n + T) b
      ∧ (w t0 = x (b 0) ∧ knock ⊥ w t0 t1 = x (b 1) ∧ knock ⊥ (knock ⊥ w t0) t1 t2 = x (b 2))
      ∧ ((b 0).val = n + t0.val ∧ (b 1).val = n + t1.val ∧ (b 2).val = n + t2.val) := by
  obtain ⟨hb, e1, e2⟩ := best_of_picks (z := ⊥) (f := w) (S := fun k => n + k.val < N) (i := ![t0, t1, t2])
    (fun k hk => by rw [hw k, dif_pos hk]; exact EReal.bot_lt_coe _) (fun k hk => by rw [hw k, dif_neg hk])
    (t := fun q => q.castLE hT) (fun q => by have := q.isLt; show n + q.val < N; omega) (Fin.castLE_injective _) h0 h1 h2
  have val : ∀ (k : Fin T) (hk : n + k.val < N), w k = x ⟨n + k.val, hk⟩ := fun k hk => by rw [hw k, dif_pos hk]
  have bet : ∀ (k k' : Fin T) (hk : n + k.val < N) (hk' : n + k'.val < N), Better w k k' →
      Better (fun k => (x k : EReal)) ⟨n + k.val, hk⟩ ⟨n + k'.val, hk'⟩ := fun k k' hk hk' h => by
    unfold Better at *
    rw [val k hk, val k' hk'] at h
    exact h.imp id fun h => ⟨h.1, Fin.lt_def.2 (Nat.add_lt_add_left h.2 n)⟩
  have m0 : n + t0.val < N := hb.mem 0
  have m1 : n + t1.val < N := hb.mem 1
  have m2 : n + t2.val < N := hb.mem 2
  refine ⟨![⟨n + t0.val, m0⟩, ⟨n + t1.val, m1⟩, ⟨n + t2.val, m2⟩], ⟨?_, bet _ _ _ _ hb.o1, bet _ _ _ _ hb.o2, ?_⟩, ⟨val _ _, e1.trans (val _ _), e2.trans (val _ _)⟩, rfl, rfl, rfl⟩
  · intro q; fin_cases q
    exacts [⟨Nat.le_add_right _ _, Nat.add_lt_add_left t0.isLt n⟩, ⟨Nat.le_add_right _ _, Nat.add_lt_add_left t1.isLt n⟩, ⟨Nat.le_add_right _ _, Nat.add_lt_add_left t2.isLt n⟩]
  · rintro k ⟨hk, hk'⟩ hn
    have hkN := k.isLt
    have e : k = ⟨n + (k.val - n), by omega⟩ := Fin.ext (by show k.val = n + (k.val - n); omega)
    rw [e]
    refine bet t2 ⟨k.val - n, by omega⟩ m2 (by show n + (k.val - n) < N; omega) (hb.rest _ (by show n + (k.val - n) < N; omega) fun q hq => hn q ?_)
    rw [e]
    revert hq
    fin_cases q <;> intro hq <;> exact Fin.ext (congrArg (fun t : Fin T => n + t.val) hq)

/-- A finite sum of reals, read in the extended reals. -/
theorem coe_sum {ι : Type} (A : Finset ι) (g : ι → ℝ) : ((∑ k ∈ A, g k : ℝ) : EReal) = ∑ k ∈ A, (g k : EReal) :=
  map_sum (⟨⟨Real.toEReal, EReal.coe_zero⟩, EReal.coe_add⟩ : ℝ →+ EReal) g A

/-- The sum a tile adds. -/
theorem tile_sum {w : Fin T → EReal} (hw : IsTile x n w) (a : Fin N) :
    ∑ k : Fin T, Ideal.exp (w k - (x a : EReal)) = ((∑ c ∈ Finset.range T, ext (fun k => Real.exp (x k - x a)) (n + c) : ℝ) : EReal) := by
  rw [← Fin.sum_univ_eq_sum_range (fun c => ext (fun k => Real.exp (x k - x a)) (n + c)), coe_sum]
  refine Finset.sum_congr rfl fun k _ => ?_
  rw [hw k]
  unfold ext
  split
  · rw [← EReal.coe_sub, Ideal.exp_coe]
  · simp

/-- The three candidates kept and the three of a tile to the right of the prefix. -/
theorem six_later {A B : Fin N → Prop} {a b : Fin 3 → Fin N} (hA : Best (fun k => (x k : EReal)) A a) (hB : Best (fun k => (x k : EReal)) B b)
    (hAB : ∀ y z, A y → B z → y < z) {f : Fin 6 → EReal} (hf : ∀ k, f k = x (six a b k)) {j0 j1 j2 : Fin 6}
    (h0 : Pick f j0) (h1 : Pick (knock ⊥ f j0) j1) (h2 : Pick (knock ⊥ (knock ⊥ f j0) j1) j2) :
    Best (fun k => (x k : EReal)) (fun k => A k ∨ B k) (fun q => six a b (![j0, j1, j2] q))
      ∧ knock ⊥ f j0 j1 = f j1 ∧ knock ⊥ (knock ⊥ f j0) j1 j2 = f j2 := by
  obtain ⟨hb, e1, e2⟩ := best_of_picks (z := ⊥) (f := f) (S := fun _ => True) (i := ![j0, j1, j2])
    (fun k _ => by rw [hf k]; exact EReal.bot_lt_coe _) (fun k hk => absurd trivial hk)
    (t := fun q => q.castLE (by decide)) (fun _ => trivial) (Fin.castLE_injective (by decide)) h0 h1 h2
  exact ⟨hA.merge hB hAB (by rw [show f = fun k => (x (six a b k) : EReal) from funext hf] at hb; exact hb), e1, e2⟩

/-- At the first tile the three candidates kept are −∞: the tile's three are chosen, in their order. -/
theorem six_first {B : Fin N → Prop} {b : Fin 3 → Fin N} (hB : Best (fun k => (x k : EReal)) B b)
    {f : Fin 6 → EReal} (hf : ∀ k, f k = six (fun _ => ⊥) (fun q => (x (b q) : EReal)) k) {j0 j1 j2 : Fin 6}
    (h0 : Pick f j0) (h1 : Pick (knock ⊥ f j0) j1) (h2 : Pick (knock ⊥ (knock ⊥ f j0) j1) j2) :
    (j0 = 3 ∧ j1 = 4 ∧ j2 = 5) ∧ knock ⊥ f j0 j1 = f j1 ∧ knock ⊥ (knock ⊥ f j0) j1 j2 = f j2 := by
  have f3 : f 3 = x (b 0) := hf 3
  have f4 : f 4 = x (b 1) := hf 4
  have f5 : f 5 = x (b 2) := hf 5
  have hhi : ∀ k : Fin 6, 3 ≤ k.val → k = 3 ∨ k = 4 ∨ k = 5 := by decide
  obtain ⟨hb, e1, e2⟩ := best_of_picks (z := ⊥) (f := f) (S := fun k => 3 ≤ k.val) (i := ![j0, j1, j2])
    (fun k hk => by rcases hhi k hk with rfl | rfl | rfl <;> simp only [f3, f4, f5] <;> exact EReal.bot_lt_coe _)
    (fun k hk => by rw [hf k]; exact dif_pos (by omega))
    (t := ![3, 4, 5]) (by decide) (by decide) h0 h1 h2
  have mv : ∀ {p q : Fin 3} {k l : Fin 6}, f k = x (b p) → f l = x (b q) → k < l → Better (fun k => (x k : EReal)) (b p) (b q) → Better f k l := by
    rintro p q k l e e' hl (h | ⟨h, -⟩)
    · exact .inl (by rw [e, e']; exact h)
    · exact .inr ⟨by rw [e, e']; exact h, hl⟩
  have hb' : Best f (fun k => 3 ≤ k.val) ![3, 4, 5] :=
    ⟨by decide, mv f3 f4 (by decide) hB.o1, mv f4 f5 (by decide) hB.o2, fun k hk hn => by
      rcases hhi k hk with rfl | rfl | rfl
      exacts [absurd rfl (hn 0), absurd rfl (hn 1), absurd rfl (hn 2)]⟩
  have e := hb.uniq hb'
  exact ⟨⟨congrFun e 0, congrFun e 1, congrFun e 2⟩, e1, e2⟩

/-- What one tile makes of a row's running state: the new maximum, sum and candidates, from picks among the tile's columns and
    among the six candidates. -/
structure RowStep (n : ℕ) (w : Fin T → EReal) (m s : EReal) (v : Fin 3 → EReal) (i : Fin 3 → BitVec 32)
    (m' s' : EReal) (v' : Fin 3 → EReal) (i' : Fin 3 → BitVec 32) : Prop where
  hm : m' = max m (Finset.univ.fold max ⊥ w)
  hs : s' = s * Ideal.exp (m - max m (Finset.univ.fold max ⊥ w)) + ∑ k : Fin T, Ideal.exp (w k - max m (Finset.univ.fold max ⊥ w))
  hc : ∃ (t0 t1 t2 : Fin T) (j0 j1 j2 : Fin 6) (f : Fin 6 → EReal) (g : Fin 6 → BitVec 32),
    (Pick w t0 ∧ Pick (knock ⊥ w t0) t1 ∧ Pick (knock ⊥ (knock ⊥ w t0) t1) t2)
    ∧ (Pick f j0 ∧ Pick (knock ⊥ f j0) j1 ∧ Pick (knock ⊥ (knock ⊥ f j0) j1) j2)
    ∧ (∀ k, f k = six v ![w t0, knock ⊥ w t0 t1, knock ⊥ (knock ⊥ w t0) t1 t2] k)
    ∧ (∀ k, g k = if h : k.val < 3 then i ⟨k.val, h⟩ else ![BitVec.ofNat 32 (n + t0.val), BitVec.ofNat 32 (n + t1.val), BitVec.ofNat 32 (n + t2.val)] ⟨k.val - 3, by omega⟩)
    ∧ (v' 0 = f j0 ∧ v' 1 = knock ⊥ f j0 j1 ∧ v' 2 = knock ⊥ (knock ⊥ f j0) j1 j2)
    ∧ (i' 0 = g j0 ∧ i' 1 = g j1 ∧ i' 2 = g j2)

variable {w : Fin T → EReal} {m s m' s' : EReal} {v v' : Fin 3 → EReal} {i i' : Fin 3 → BitVec 32}

/-- The first tile sets the running state up. -/
theorem RowStep.first (hw : IsTile x 0 w) (hT : 3 ≤ T) (hN : 3 ≤ N) (hm : m = ⊥) (hs : s = 0) (hv : ∀ q, v q = ⊥)
    (h : RowStep 0 w m s v i m' s' v' i') : ∃ a, RowSt x T a m' s' v' i' := by
  obtain ⟨t0, t1, t2, j0, j1, j2, f, g, ⟨p0, p1, p2⟩, ⟨r0, r1, r2⟩, hf, hg, ⟨v0, v1, v2⟩, i0, i1, i2⟩ := h.hc
  obtain ⟨b, hb, ⟨w0, w1, w2⟩, c0, c1, c2⟩ := tile_best hw hT (by omega) p0 p1 p2
  have hv' : v = fun _ => ⊥ := funext hv
  have hu : (![w t0, knock ⊥ w t0 t1, knock ⊥ (knock ⊥ w t0) t1 t2] : Fin 3 → EReal) = fun q => (x (b q) : EReal) := by
    funext q; fin_cases q; exacts [w0, w1, w2]
  rw [hv', hu] at hf
  obtain ⟨⟨rfl, rfl, rfl⟩, e1, e2⟩ := six_first hb hf r0 r1 r2
  have hM : max m (Finset.univ.fold max ⊥ w) = (x (b 0) : EReal) := by rw [hm, fold_of_pick p0, w0, max_eq_right bot_le]
  have hb' : Best (fun k => (x k : EReal)) (fun k => k.val < T) b :=
    ⟨fun q => by have := (hb.mem q).2; omega, hb.o1, hb.o2, fun k hk => hb.rest k ⟨Nat.zero_le _, by omega⟩⟩
  refine ⟨b, hb', ?_, ?_, h.hm.trans hM, ?_⟩
  · intro q; fin_cases q
    exacts [v0.trans (hf 3), v1.trans (e1.trans (hf 4)), v2.trans (e2.trans (hf 5))]
  · intro q; fin_cases q
    · exact i0.trans ((hg 3).trans (congrArg (BitVec.ofNat 32) c0.symm))
    · exact i1.trans ((hg 4).trans (congrArg (BitVec.ofNat 32) c1.symm))
    · exact i2.trans ((hg 5).trans (congrArg (BitVec.ofNat 32) c2.symm))
  · rw [h.hs, hM, hs, zero_mul, zero_add, tile_sum hw]
    refine congrArg _ (Finset.sum_congr rfl fun c _ => ?_)
    rw [Nat.zero_add]

/-- Each later tile carries the running state on. -/
theorem RowStep.later {a : Fin 3 → Fin N} (hw : IsTile x n w) (hT : 3 ≤ T) (hN : n + 3 ≤ N) (ha : RowSt x n a m s v i)
    (h : RowStep n w m s v i m' s' v' i') : ∃ a, RowSt x (n + T) a m' s' v' i' := by
  obtain ⟨t0, t1, t2, j0, j1, j2, f, g, ⟨p0, p1, p2⟩, ⟨r0, r1, r2⟩, hf, hg, ⟨v0, v1, v2⟩, i0, i1, i2⟩ := h.hc
  obtain ⟨b, hb, ⟨w0, w1, w2⟩, c0, c1, c2⟩ := tile_best hw hT hN p0 p1 p2
  have hu : (![w t0, knock ⊥ w t0 t1, knock ⊥ (knock ⊥ w t0) t1 t2] : Fin 3 → EReal) = fun q => (x (b q) : EReal) := by
    funext q; fin_cases q; exacts [w0, w1, w2]
  have hf' : ∀ k, f k = x (six a b k) := fun k => by
    rw [hf k, hu, show v = fun q => (x (a q) : EReal) from funext ha.v]
    unfold six; split <;> rfl
  have hg' : ∀ k, g k = BitVec.ofNat 32 (six a b k).val := fun k => by
    rw [hg k]; unfold six
    split
    · exact ha.i _
    · generalize (⟨k.val - 3, _⟩ : Fin 3) = q
      fin_cases q
      exacts [congrArg (BitVec.ofNat 32) c0.symm, congrArg (BitVec.ofNat 32) c1.symm, congrArg (BitVec.ofNat 32) c2.symm]
  obtain ⟨hc, e1, e2⟩ := six_later ha.best hb (fun y z hy hz => Fin.lt_def.2 (hy.trans_le hz.1)) hf' r0 r1 r2
  generalize hC : (fun q => six a b (![j0, j1, j2] q)) = C at hc
  have C0 : six a b j0 = C 0 := congrFun hC 0
  have C1 : six a b j1 = C 1 := congrFun hC 1
  have C2 : six a b j2 = C 2 := congrFun hC 2
  have ub : ∀ k : Fin N, (k.val < n ∨ (n ≤ k.val ∧ k.val < n + T)) → (x k : EReal) ≤ x (C 0) := fun k hk => by
    by_cases e : k = C 0
    · rw [e]
    · exact (hc.first hk e).le
  have hM : max m (Finset.univ.fold max ⊥ w) = (x (C 0) : EReal) := by
    rw [ha.m, fold_of_pick p0, w0]
    refine le_antisymm (max_le (ub _ (.inl (ha.best.mem 0))) (ub _ (.inr (hb.mem 0)))) ?_
    rcases hc.mem 0 with l | l
    · refine le_max_of_le_left ?_
      by_cases e : C 0 = a 0
      · rw [e]
      · exact (ha.best.first l e).le
    · refine le_max_of_le_right ?_
      by_cases e : C 0 = b 0
      · rw [e]
      · exact (hb.first l e).le
  have hc' : Best (fun k => (x k : EReal)) (fun k => k.val < n + T) C :=
    ⟨fun q => by have := hc.mem q; omega, hc.o1, hc.o2, fun k hk => hc.rest k (by omega)⟩
  refine ⟨C, hc', ?_, ?_, h.hm.trans hM, ?_⟩
  · intro q; fin_cases q
    exacts [v0.trans ((hf' _).trans (by rw [C0]; rfl)), v1.trans (e1.trans ((hf' _).trans (by rw [C1]; rfl))), v2.trans (e2.trans ((hf' _).trans (by rw [C2]; rfl)))]
  · intro q; fin_cases q
    exacts [i0.trans ((hg' _).trans (by rw [C0]; rfl)), i1.trans ((hg' _).trans (by rw [C1]; rfl)), i2.trans ((hg' _).trans (by rw [C2]; rfl))]
  · rw [h.hs, hM, ha.s, ha.m, tile_sum hw, ← EReal.coe_sub, Ideal.exp_coe, ← EReal.coe_mul, ← EReal.coe_add]
    refine congrArg _ ?_
    unfold expSum
    rw [Finset.sum_range_add, Finset.sum_mul]
    refine congrArg (· + _) (Finset.sum_congr rfl fun c _ => ?_)
    unfold ext
    split
    · rw [← Real.exp_add]; congr 1; ring
    · exact zero_mul _

/-- Over all columns the sum is the sum over the row. -/
theorem expSum_all (a : Fin N) (h : N ≤ n) : expSum x a n = ∑ k : Fin N, Real.exp (x k - x a) := by
  obtain ⟨d, rfl⟩ := Nat.exists_eq_add_of_le h
  unfold expSum
  rw [Finset.sum_range_add, Finset.sum_eq_zero (s := Finset.range d) (fun c _ => dif_neg (by omega)), add_zero, ← Fin.sum_univ_eq_sum_range]
  exact Finset.sum_congr rfl fun k _ => dif_pos k.isLt

end Cert.Best

end

end
-- ==== Proof.Prefix.lean ====
module

public import proofs.«01_k».proof.Proof.Tile
public import proofs.«01_k».proof.Proof.Row
public import proofs.«01_k».proof.Proof.IRun

@[expose] public section

set_option maxRecDepth 16384

noncomputable section

namespace Cert.KernelIdeal.Own
open Cert.KernelIdeal Cert.KernelIdeal.Gen
open Idealize.ShloMosaic Idealize.ShloMosaic.TcCoe

variable (m : (ℓ : Loc nD τ sig) → Buf (Elt Ideal) ℓ) (Inv : Dev nD → ℕ → St Ideal → Prop) (P3 : Dev nD → Vec Ideal S24x3 .f32 → Prop) (P4 : Dev nD → Vec Ideal S24x3 .i32 → Prop)

/-- The arguments the projection reads. -/
abbrev argH (c : Dev nD) : Vec Ideal S24x768 .f32 := m ((c : Thread nD τ).loc main_arg0)
/-- The weights. -/
abbrev argW (c : Dev nD) : Vec Ideal S768x30522 .f32 := m ((c : Thread nD τ).loc main_arg1)
/-- The bias. -/
abbrev argB (c : Dev nD) : Vec Ideal S1x30522 .f32 := m ((c : Thread nD τ).loc main_arg2)

/-- The blocks that the weights' and the bias's windows stand on at a point. -/
theorem index1 : ∀ t : Fin cfg0.N, win0_1.index t 0 = t.val ∧ win0_1.index t 1 = 0 ∧ win0_2.index t 0 = 0 ∧ win0_2.index t 1 = t.val := by
  decide +kernel
/-- How many rows of a block of weights lie inside the array. -/
theorem xsize1 : ∀ t : Fin cfg0.N, win0_1.xsize (grid0.coords t) 0 = min 5120 (30522 - t.val * 5120) ∧ win0_1.xsize (grid0.coords t) 1 = 768
    ∧ win0_2.xsize (grid0.coords t) 0 = 1 ∧ win0_2.xsize (grid0.coords t) 1 = min 5120 (30522 - t.val * 5120) := by
  decide +kernel
/-- A point's coordinate is its number. -/
theorem coords1 : ∀ t : Fin cfg0.N, ((grid0.coords t) 0).val = t.val := by decide +kernel

/-- The region reads the transposed weights. -/
theorem V1_wt (c : Dev nD) (k : Fin 30522) (q : Fin 768) : (V1 m c main_v0 : Vec Ideal S30522x768 .f32) (ix2 k q) = argW m c (ix2 q k) := by
  show (StableHlo.after hostOps0 (V0 m c) main_v0 : Vec Ideal S30522x768 .f32) (ix2 k q) = _
  after_results_simp
  pointwise []

/-- The fetched block of `hidden` is `hidden`. -/
theorem blkH_apply (c : Dev nD) (d) (r : Fin 24) (q : Fin 768) : blkH m Inv P3 P4 c d (ix2 r q) = argH m c (ix2 r q) := by
  have hm : win0_0.moved (grid0.coords t0_0) (ix2 r q) = true := rfl
  unfold blkH Pipeline.RDat.fetched Pipeline.Window.fill
  refine (dif_pos hm).trans ?_
  unfold Pipeline.RDat.blockOf
  rw [View.read_apply]
  refine (cast_eq _ _).trans ?_
  refine (congrArg (V1 m c main_arg0 : Vec Ideal S24x768 .f32) (funext (Fin.forall_fin_two.2 ⟨Fin.ext ?_, Fin.ext ?_⟩))).trans (congrFun (V1_of m c main_arg0 (by decide)) (ix2 r q))
  · exact win0_0.rect_emb_val_of_index_zero t0_0 0 rfl _
  · exact win0_0.rect_emb_val_of_index_zero t0_0 1 rfl _

/-- The fetched block of weight columns, where it lies inside the vocabulary. -/
theorem blkW_apply (c : Dev nD) (t) (d) (k : Fin 5120) (q : Fin 768) (e : Fin 30522) (h : e.val = t.val * 5120 + k.val) :
    blkW m Inv P3 P4 c t d (ix2 k q) = argW m c (ix2 q e) := by
  have hk := k.isLt
  have he := e.isLt
  have hm : win0_1.moved (grid0.coords t) (ix2 k q) = true := (win0_1.moved_iff _ _).2 <| Fin.forall_fin_two.2
    ⟨lt_of_lt_of_eq (show k.val < min 5120 (30522 - t.val * 5120) from lt_min hk (by omega)) (xsize1 t).1.symm, lt_of_lt_of_eq q.isLt (xsize1 t).2.1.symm⟩
  unfold blkW Pipeline.RDat.fetched Pipeline.Window.fill
  refine (dif_pos hm).trans ?_
  unfold Pipeline.RDat.blockOf
  rw [View.read_apply]
  rw [← V1_wt m c]
  refine (cast_eq _ _).trans (congrArg (V1 m c main_v0 : Vec Ideal S30522x768 .f32) (funext (Fin.forall_fin_two.2 ⟨Fin.ext ?_, Fin.ext ?_⟩)))
  · refine (win0_1.rect_emb_val t _ 0).trans ?_
    rw [(index1 t).1]; exact h.symm
  · refine (win0_1.rect_emb_val t _ 1).trans ?_
    rw [(index1 t).2.1]; exact Nat.zero_add _

/-- The fetched block of biases, where it lies inside the vocabulary. -/
theorem blkB_apply (c : Dev nD) (t) (d) (k : Fin 5120) (e : Fin 30522) (h : e.val = t.val * 5120 + k.val) :
    blkB m Inv P3 P4 c t d (ix2 0 k) = argB m c (ix2 0 e) := by
  have hk := k.isLt
  have he := e.isLt
  have hm : win0_2.moved (grid0.coords t) (ix2 0 k) = true := (win0_2.moved_iff _ _).2 <| Fin.forall_fin_two.2
    ⟨lt_of_lt_of_eq Nat.one_pos (xsize1 t).2.2.1.symm, lt_of_lt_of_eq (show k.val < min 5120 (30522 - t.val * 5120) from lt_min hk (by omega)) (xsize1 t).2.2.2.symm⟩
  unfold blkB Pipeline.RDat.fetched Pipeline.Window.fill
  refine (dif_pos hm).trans ?_
  unfold Pipeline.RDat.blockOf
  rw [View.read_apply]
  refine (cast_eq _ _).trans ?_
  refine (congrArg (V1 m c main_arg2 : Vec Ideal S1x30522 .f32) (funext (Fin.forall_fin_two.2 ⟨Fin.ext ?_, Fin.ext ?_⟩))).trans (congrFun (V1_of m c main_arg2 (by decide)) (ix2 0 e))
  · refine (win0_2.rect_emb_val t _ 0).trans ?_
    rw [(index1 t).2.2.1]; exact Nat.zero_add _
  · refine (win0_2.rect_emb_val t _ 1).trans ?_
    rw [(index1 t).2.2.2]; exact h.symm

/-- A logit. -/
def lgt (c : Dev nD) (r : Fin 24) (k : Fin 30522) : EReal := (∑ q : Fin 768, argH m c (ix2 r q) * argW m c (ix2 q k)) + argB m c (ix2 0 k)

/-- A point's masked logits are a tile of the row of logits. -/
theorem isTile {x : Fin 24 → Fin 30522 → ℝ} (c : Dev nD) (hx : ∀ r k, lgt m c r k = x r k) (t : Fin cfg0.N) (d0 d1 d2) (r : Fin 24) :
    Best.IsTile (x r) (t.val * 5120) (rowOf (lg (grid0.coords t) (blkH m Inv P3 P4 c d0) (blkW m Inv P3 P4 c t d1) (blkB m Inv P3 P4 c t d2)) r) := by
  intro k
  refine (lg_apply _ _ _ _ r k).trans ?_
  rw [coords1 t]
  by_cases h : t.val * 5120 + k.val < 30522
  · rw [if_pos h, dif_pos h, ← hx, blkB_apply m Inv P3 P4 c t d2 k ⟨t.val * 5120 + k.val, h⟩ rfl]
    refine congrArg (· + _) (Finset.sum_congr rfl fun q _ => ?_)
    rw [blkH_apply, blkW_apply m Inv P3 P4 c t d1 k q ⟨t.val * 5120 + k.val, h⟩ rfl]
  · rw [if_neg h, dif_neg h]

/-- What a point does to a row's running state. -/
theorem step_row (t : Fin cfg0.N) (h : Vec Ideal S24x768 .f32) (w : Vec Ideal S5120x768 .f32) (b : Vec Ideal S1x5120 .f32) (σ : St Ideal) (r : Fin 24) :
    Best.RowStep (t.val * 5120) (rowOf (lg (grid0.coords t) h w b) r) (σ.m (ix2 r 0)) (σ.s (ix2 r 0)) (fun q => σ.v (ix2 r q)) (fun q => σ.i (ix2 r q))
      ((step (grid0.coords t) h w b σ).m (ix2 r 0)) ((step (grid0.coords t) h w b σ).s (ix2 r 0))
      (fun q => (step (grid0.coords t) h w b σ).v (ix2 r q)) (fun q => (step (grid0.coords t) h w b σ).i (ix2 r q)) := by
  have hms := ms_apply (grid0.coords t) h w b σ.m σ.s r
  refine ⟨hms.1, hms.2, ?_⟩
  obtain ⟨t0, t1, t2, p0, p1, p2, e0, e1, e2, c0, c1, c2⟩ := tile_picks (lg (grid0.coords t) h w b) (jv (grid0.coords t)) r
  have col : ∀ k : ℕ, BitVec.ofNat 32 k + jv (grid0.coords t) * 5120#32 = BitVec.ofNat 32 (t.val * 5120 + k) := fun k => by
    unfold jv
    rw [coords1 t, ← BitVec.ofNat_mul, ← BitVec.ofNat_add, Nat.add_comm]
  obtain ⟨j0, j1, j2, q0, q1, q2, v0, v1, v2, i0, i1, i2⟩ := six_picks (k0_pay12 (lg (grid0.coords t) h w b)) (k0_pay16 cols (lg (grid0.coords t) h w b)) (k0_pay20 cols (lg (grid0.coords t) h w b))
    (k0_pay14 (jv (grid0.coords t)) cols (lg (grid0.coords t) h w b)) (k0_pay18 (jv (grid0.coords t)) cols (lg (grid0.coords t) h w b)) (k0_pay21 (jv (grid0.coords t)) cols (lg (grid0.coords t) h w b)) σ.v σ.i r
  refine ⟨t0, t1, t2, j0, j1, j2, _, fun k => k0_pay23 (k0_pay14 (jv (grid0.coords t)) cols (lg (grid0.coords t) h w b)) (k0_pay18 (jv (grid0.coords t)) cols (lg (grid0.coords t) h w b))
    (k0_pay21 (jv (grid0.coords t)) cols (lg (grid0.coords t) h w b)) σ.i (ix2 r k), ⟨p0, p1, p2⟩, ⟨q0, q1, q2⟩, fun k => ?_, fun k => ?_, ⟨v0, v1, v2⟩, i0, i1, i2⟩
  · refine (six_vals _ _ _ _ r k).trans ?_
    rw [e0, e1, e2]
  · refine (six_cols _ _ _ _ r k).trans ?_
    rw [c0, c1, c2, col, col, col]

/-- The first point is number zero. -/
theorem isFst_iff : ∀ t : Fin cfg0.N, isFst (grid0.coords t) = 1#1 ↔ t.val = 0 := by
  intro t; rcases fin_N0 t with rfl | rfl | rfl | rfl | rfl | rfl <;> decide

/-- What a row of the scratch starts from. -/
theorem init_row (r : Fin 24) : (St.init (F := Ideal)).m (ix2 r 0) = (⊥ : EReal) ∧ (St.init (F := Ideal)).s (ix2 r 0) = (0 : EReal)
    ∧ ∀ q, (St.init (F := Ideal)).v (ix2 r q) = (⊥ : EReal) := by
  refine ⟨?_, ?_, fun q => ?_⟩ <;> unfold St.init <;> pointwise [k0_pay4, k0_pay5, k0_pay6, neg_eq]

/-- The rows' running states after `n` points. -/
def RowInv (x : Dev nD → Fin 24 → Fin 30522 → ℝ) (c : Dev nD) (n : ℕ) (σ : St Ideal) : Prop :=
  ∀ r, ∃ a, Best.RowSt (x c r) (n * 5120) a (σ.m (ix2 r 0)) (σ.s (ix2 r 0)) (fun q => σ.v (ix2 r q)) (fun q => σ.i (ix2 r q))

/-- The probability of column `k` in a row of logits. -/
def softmax (y : Fin 30522 → ℝ) (a k : Fin 30522) : EReal := Ideal.div (Real.exp (y k - y a) : ℝ) ((∑ l : Fin 30522, Real.exp (y l - y a) : ℝ) : EReal)

/-- The stored probabilities are those of the three best columns of each row, -/
def IsProb (x : Dev nD → Fin 24 → Fin 30522 → ℝ) (c : Dev nD) (P : Vec Ideal S24x3 .f32) : Prop :=
  ∀ r a, Best.Best (fun k => (x c r k : EReal)) (fun _ => True) a → ∀ q, P (ix2 r q) = softmax (x c r) (a 0) (a q)
/-- and the stored columns are these columns. -/
def IsBest (x : Dev nD → Fin 24 → Fin 30522 → ℝ) (c : Dev nD) (P : Vec Ideal S24x3 .i32) : Prop :=
  ∀ r a, Best.Best (fun k => (x c r k : EReal)) (fun _ => True) a → ∀ q, P (ix2 r q) = BitVec.ofNat 32 (a q).val

/-- Three that are the best of all the tiles' columns are the three best of the row. -/
theorem best_all {x : Fin 30522 → ℝ} {a a' : Fin 3 → Fin 30522} (h : Best.Best (fun k => (x k : EReal)) (fun k => k.val < 6 * 5120) a)
    (h' : Best.Best (fun k => (x k : EReal)) (fun _ => True) a') : a = a' :=
  Best.Best.uniq ⟨fun _ => trivial, h.o1, h.o2, fun k _ hk => h.rest k (by have := k.isLt; omega) hk⟩ h'

/-- The running states are kept by every point and give the two results. -/
theorem keeps {x : Dev nD → Fin 24 → Fin 30522 → ℝ} (hx : ∀ c r k, lgt m c r k = x c r k) : Keeps m (RowInv x) (IsProb x) (IsBest x) where
  step c t d0 d1 d2 σ hσ r := by
    have ht : t.val < 6 := Nat.lt_of_lt_of_eq t.isLt N_0
    have hw := isTile m (RowInv x) (IsProb x) (IsBest x) c (hx c) t d0 d1 d2 r
    unfold next start
    by_cases h0 : t.val = 0
    · rw [if_pos ((isFst_iff t).2 h0)]
      have hs := step_row t (blkH m (RowInv x) (IsProb x) (IsBest x) c d0) (blkW m (RowInv x) (IsProb x) (IsBest x) c t d1) (blkB m (RowInv x) (IsProb x) (IsBest x) c t d2) St.init r
      rw [h0, Nat.zero_mul] at hw hs
      rw [h0, Nat.zero_add, Nat.one_mul]
      exact hs.first hw (by decide) (by decide) (init_row r).1 (init_row r).2.1 (init_row r).2.2
    · rw [if_neg (mt (isFst_iff t).1 h0), Nat.succ_mul]
      obtain ⟨a, ha⟩ := hσ h0 r
      exact (step_row t _ _ _ σ r).later hw (by decide) (by omega) ha
  prob c σ hσ r a' ha' q := by
    obtain ⟨a, ha⟩ := hσ r
    obtain rfl := best_all ha.best ha'
    refine (prob_apply σ r q).trans ?_
    unfold softmax
    rw [ha.m, ha.s, ← Best.expSum_all (a 0) (by decide : 30522 ≤ 6 * 5120), show σ.v (ix2 r q) = (x c r (a q) : EReal) from ha.v q, ← EReal.coe_sub, Ideal.exp_coe]
  best c σ hσ r a' ha' q := by
    obtain ⟨a, ha⟩ := hσ r
    obtain rfl := best_all ha.best ha'
    exact ha.i q

end Cert.KernelIdeal.Own

end
-- ==== Proof.Count.lean ====
module

public import proofs.«01_k».proof.Proof.Best

@[expose] public section

/-!
Counting a word in a row of tokens, in 32-bit words, and the flag read off two counts.
-/

namespace Cert.Best
open Idealize.ShloMosaic

/-- How often a word stands in a row, counted in words. -/
def tally {n : ℕ} (G : Fin n → BitVec 32) (w : BitVec 32) : BitVec 32 :=
  Finset.univ.fold IntOp.addi 0#32 fun k => BitVec.setWidth 32 (IntOp.cmpi .eq (G k) w)

/-- A row with one token more. -/
def snoc {n : ℕ} (G : Fin n → BitVec 32) (t : BitVec 32) : Fin (n + 1) → BitVec 32 := fun k => if h : k.val < n then G ⟨k.val, h⟩ else t

/-- Before its end the longer row is the row. -/
theorem snoc_lt {n : ℕ} {G : Fin n → BitVec 32} {t : BitVec 32} {k : Fin (n + 1)} (h : k.val < n) : snoc G t k = G ⟨k.val, h⟩ := dif_pos h
/-- At its end it is the token. -/
theorem snoc_ge {n : ℕ} {G : Fin n → BitVec 32} {t : BitVec 32} {k : Fin (n + 1)} (h : ¬ k.val < n) : snoc G t k = t := dif_neg h

/-- Whether a hypothesis goes on: at most three separators and no question mark. -/
def goes {n : ℕ} (G : Fin n → BitVec 32) : BitVec 1 :=
  IntOp.andi (IntOp.cmpi .sle (tally G 102#32) 3#32) (Finset.univ.fold IntOp.andi 1#1 fun k => IntOp.cmpi .ne (G k) 1029#32)

/-- One token more adds one to its count. -/
theorem tally_snoc {n : ℕ} (G : Fin n → BitVec 32) (t w : BitVec 32) :
    tally (snoc G t) w = IntOp.addi (tally G w) (BitVec.setWidth 32 (IntOp.cmpi .eq t w)) := by
  unfold tally
  rw [Fin.univ_castSuccEmb, Finset.fold_cons, Finset.fold_map]
  have hl : snoc G t (Fin.last n) = t := dif_neg (lt_irrefl n)
  have hc : ∀ k : Fin n, snoc G t k.castSucc = G k := fun k => dif_pos k.isLt
  rw [hl]
  refine (Std.Commutative.comm (op := IntOp.addi) _ _).trans (congrArg (IntOp.addi · _) ?_)
  exact Finset.fold_congr fun k _ => by simp only [Function.comp, Fin.coe_castSuccEmb, hc]

/-- The flag of an equality. -/
theorem cmpi_eq (a b : BitVec 32) : IntOp.cmpi .eq a b = if a = b then 1#1 else 0#1 := by
  unfold IntOp.cmpi
  by_cases h : a = b
  · simp [h]
  · have e : (a == b) = false := beq_eq_false_iff_ne.2 h
    rw [if_neg h]; simp only [e]; rfl
/-- The flag of an inequality. -/
theorem cmpi_ne (a b : BitVec 32) : IntOp.cmpi .ne a b = if a = b then 0#1 else 1#1 := by
  unfold IntOp.cmpi
  by_cases h : a = b
  · simp [h]
  · have e : (a == b) = false := beq_eq_false_iff_ne.2 h
    rw [if_neg h]; simp only [bne, e]; rfl

/-- A tally is zero exactly when the word stands nowhere. -/
theorem tally_eq_zero {n : ℕ} (hn : n < 2 ^ 31) (G : Fin n → BitVec 32) (w : BitVec 32) :
    IntOp.cmpi .eq (tally G w) 0#32 = Finset.univ.fold IntOp.andi 1#1 fun k => IntOp.cmpi .ne (G k) w := by
  have h1 : ∀ s : Finset (Fin n), (s.fold IntOp.addi 0#32 fun k => BitVec.setWidth 32 (IntOp.cmpi .eq (G k) w)) = BitVec.ofNat 32 (s.filter fun k => G k = w).card := by
    intro s
    induction s using Finset.induction_on with
    | empty => rfl
    | insert a s ha ih =>
      rw [Finset.fold_insert ha, ih, Finset.filter_insert, cmpi_eq]
      by_cases h : G a = w
      · rw [if_pos h, if_pos h, Finset.card_insert_of_notMem (fun hm => ha (Finset.mem_filter.1 hm).1), Nat.add_comm, BitVec.ofNat_add]; rfl
      · rw [if_neg h, if_neg h]; exact BitVec.zero_add _
  have h2 : ∀ s : Finset (Fin n), (s.fold IntOp.andi 1#1 fun k => IntOp.cmpi .ne (G k) w) = if (s.filter fun k => G k = w).card = 0 then 1#1 else 0#1 := by
    intro s
    induction s using Finset.induction_on with
    | empty => rfl
    | insert a s ha ih =>
      rw [Finset.fold_insert ha, ih, Finset.filter_insert, cmpi_ne]
      by_cases h : G a = w
      · rw [if_pos h, if_pos h, Finset.card_insert_of_notMem (fun hm => ha (Finset.mem_filter.1 hm).1), if_neg (Nat.succ_ne_zero _)]; split <;> rfl
      · rw [if_neg h, if_neg h]; split <;> rfl
  have hc : (Finset.univ.filter fun k => G k = w).card < 2 ^ 31 := (Finset.card_filter_le _ _).trans_lt (by simpa using hn)
  unfold tally
  rw [h1, h2, cmpi_eq]
  exact if_congr (ofNat_inj hc (by decide)) rfl rfl

/-- The flag as the program computes it from the row's counts and the token's. -/
theorem flag_snoc {n : ℕ} (hn : n + 1 < 2 ^ 31) (G : Fin n → BitVec 32) (t : BitVec 32) :
    IntOp.andi (IntOp.cmpi .sle (IntOp.addi (tally G 102#32) (BitVec.setWidth 32 (IntOp.cmpi .eq t 102#32))) 3#32)
      (IntOp.cmpi .eq (IntOp.addi (tally G 1029#32) (BitVec.setWidth 32 (IntOp.cmpi .eq t 1029#32))) 0#32) = goes (snoc G t) := by
  rw [← tally_snoc, ← tally_snoc, tally_eq_zero hn]; rfl

/-- A flag widened to a word and compared with zero is the flag. -/
theorem flag_ne (b : BitVec 1) : IntOp.cmpi .ne (BitVec.setWidth 32 b) 0#32 = b := by
  revert b; decide

end Cert.Best

end
-- ==== Proof.Merge.lean ====
module

public import proofs.«01_k».proof.Proof.Prefix
public import proofs.«01_k».proof.Proof.Count

@[expose] public section

set_option maxRecDepth 16384

/-!
The merge of the nine hypotheses of each sequence: the three best are found, and from each its token, its parent's row and whether the
hypothesis goes on.
-/

noncomputable section

namespace Cert.KernelIdeal.Own
open Cert.KernelIdeal Cert.KernelIdeal.Gen Cert.Best
open Idealize.ShloMosaic Idealize.ShloMosaic.TcCoe

/-- The pattern a taken hypothesis is struck out with is −1. -/
theorem neg_one_eq : (Ideal.ofBits .f32 0xBF800000#32 : EReal) = -1 := by
  simp only [Ideal.ofBits, Ideal.ieee]
  simp
  rw [← EReal.coe_mul]
  norm_num

/-- Row `r` of an array of eight rows. -/
abbrev row8 {n : ℕ} (w : FVec Ideal ⟨2, ![8, n]⟩ .f32) (r : Fin 8) : Fin n → EReal := fun k => w (ix2 r k)

section
variable (x0 : Vec Ideal S8x9 .f32) (x1 : Vec Ideal S8x9 .i32) (x2 : Vec Ideal S8x3 .f32) (x3 x4 x5 : Vec Ideal S8x512 .i32) (r : Fin 8)

/-- A hypothesis' score is its beam's probability times its token's. -/
theorem e0_apply (k : Fin 9) : e0 x0 x2 (ix2 r k) = (x2 (ix2 r ⟨k.val / 3, by omega⟩) : EReal) * x0 (ix2 r k) := by
  fin_cases k <;> (pointwise [e0, k1_pay3]) <;> rfl

/-- The three picks of the merge. -/
theorem merge_picks : ∃ j0 j1 j2 : Fin 9, Pick (row8 (e0 x0 x2) r) j0 ∧ Pick (knock (-1) (row8 (e0 x0 x2) r) j0) j1
    ∧ Pick (knock (-1) (knock (-1) (row8 (e0 x0 x2) r) j0) j1) j2
    ∧ (pos0 x0 x2 (ix2 r 0) = BitVec.ofNat 32 j0.val ∧ pos1 x0 x2 (ix2 r 0) = BitVec.ofNat 32 j1.val ∧ pos2 x0 x2 (ix2 r 0) = BitVec.ofNat 32 j2.val)
    ∧ k1_pay7 x0 x2 (ix2 r 0) = row8 (e0 x0 x2) r j0 ∧ k1_pay15 (e1 x0 x2) (ix2 r 0) = knock (-1) (row8 (e0 x0 x2) r) j0 j1
    ∧ k1_pay24 (e2 x0 x2) (ix2 r 0) = knock (-1) (knock (-1) (row8 (e0 x0 x2) r) j0) j1 j2 := by
  have hn : 0 < 9 := by decide
  have hb : 9 < 2 ^ 31 := by decide
  obtain ⟨j0, m0, p0, s0⟩ := pick_of_fold hn hb (row8 (e0 x0 x2) r)
  have c0 : pos0 x0 x2 (ix2 r 0) = BitVec.ofNat 32 j0.val := by
    rw [← s0]; unfold pos0 e0; pointwise [k1_pay8, k1_pay7, ninf_eq]
  have w1 : row8 (e1 x0 x2) r = knock (-1) (row8 (e0 x0 x2) r) j0 := funext fun k => by
    rw [← knock_select hb, ← c0]; unfold e1; pointwise [k1_pay11, cc, neg_one_eq]
  obtain ⟨j1, m1, p1, s1⟩ := pick_of_fold hn hb (row8 (e1 x0 x2) r)
  have c1 : pos1 x0 x2 (ix2 r 0) = BitVec.ofNat 32 j1.val := by
    rw [← s1]; unfold pos1; pointwise [k1_pay16, k1_pay15, cc, ninf_eq]
  have w2 : row8 (e2 x0 x2) r = knock (-1) (row8 (e1 x0 x2) r) j1 := funext fun k => by
    rw [← knock_select hb, ← c1]; unfold e2; pointwise [k1_pay20, cc, neg_one_eq]
  obtain ⟨j2, m2, p2, s2⟩ := pick_of_fold hn hb (row8 (e2 x0 x2) r)
  have c2 : pos2 x0 x2 (ix2 r 0) = BitVec.ofNat 32 j2.val := by
    rw [← s2]; unfold pos2; pointwise [k1_pay25, k1_pay24, cc, ninf_eq]
  refine ⟨j0, j1, j2, p0, w1 ▸ p1, ?_, ⟨c0, c1, c2⟩, ?_, ?_, ?_⟩
  · rw [← w1, ← w2]; exact p2
  · refine Eq.trans ?_ m0; unfold e0; pointwise [k1_pay7, ninf_eq]
  · rw [← w1, ← m1]; pointwise [k1_pay15, ninf_eq]
  · rw [← w1, ← w2, ← m2]; pointwise [k1_pay24, ninf_eq]

variable {x0 x2 r} {j : Fin 9}

/-- The token of the hypothesis found. -/
theorem tok0_apply (h : pos0 x0 x2 (ix2 r 0) = BitVec.ofNat 32 j.val) : tok0 x0 x1 x2 (ix2 r 0) = x1 (ix2 r j) := by
  unfold pos0 at h
  unfold tok0 k1_pay9
  revert h; generalize k1_pay8 x0 x2 = g; intro h
  pointwise [k1_pay2]
  rw [h]
  exact fold_addi_one (by decide) (fun k => x1 (ix2 r k)) j
/-- (the second) -/
theorem tok1_apply (h : pos1 x0 x2 (ix2 r 0) = BitVec.ofNat 32 j.val) : tok1 x0 x1 x2 (ix2 r 0) = x1 (ix2 r j) := by
  unfold pos1 at h
  unfold tok1 k1_pay17
  revert h; generalize k1_pay16 cc (e1 x0 x2) = g; intro h
  pointwise [k1_pay2, cc]
  rw [h]
  exact fold_addi_one (by decide) (fun k => x1 (ix2 r k)) j
/-- (the third) -/
theorem tok2_apply (h : pos2 x0 x2 (ix2 r 0) = BitVec.ofNat 32 j.val) : tok2 x0 x1 x2 (ix2 r 0) = x1 (ix2 r j) := by
  unfold pos2 at h
  unfold tok2 k1_pay26
  revert h; generalize k1_pay25 cc (e2 x0 x2) = g; intro h
  pointwise [k1_pay2, cc]
  rw [h]
  exact fold_addi_one (by decide) (fun k => x1 (ix2 r k)) j

/-- The row of the parent of the hypothesis found. -/
theorem row0_apply (h : pos0 x0 x2 (ix2 r 0) = BitVec.ofNat 32 j.val) (k : Fin 512) :
    row0 x0 x2 x3 x4 x5 (ix2 r k) = (![x3, x4, x5] : Fin 3 → Vec Ideal S8x512 .i32) ⟨j.val / 3, by omega⟩ (ix2 r k) := by
  unfold row0 k1_pay10
  unfold pos0 at h ⊢
  revert h; generalize k1_pay8 x0 x2 = g; intro h
  pointwise [k1_pay12, k1_pay4, k1_pay5, k1_pay6]
  rw [h]
  fin_cases j <;> rfl
/-- (the second) -/
theorem row1_apply (h : pos1 x0 x2 (ix2 r 0) = BitVec.ofNat 32 j.val) (k : Fin 512) :
    row1 x0 x2 x3 x4 x5 (ix2 r k) = (![x3, x4, x5] : Fin 3 → Vec Ideal S8x512 .i32) ⟨j.val / 3, by omega⟩ (ix2 r k) := by
  unfold row1 k1_pay18 k1_pay19
  unfold pos1 at h ⊢
  revert h; generalize k1_pay16 cc (e1 x0 x2) = g; intro h
  pointwise [k1_pay21, k1_pay4, k1_pay5, k1_pay6]
  rw [h]
  fin_cases j <;> rfl
/-- (the third) -/
theorem row2_apply (h : pos2 x0 x2 (ix2 r 0) = BitVec.ofNat 32 j.val) (k : Fin 512) :
    row2 x0 x2 x3 x4 x5 (ix2 r k) = (![x3, x4, x5] : Fin 3 → Vec Ideal S8x512 .i32) ⟨j.val / 3, by omega⟩ (ix2 r k) := by
  unfold row2 k1_pay27 k1_pay28
  unfold pos2 at h ⊢
  revert h; generalize k1_pay25 cc (e2 x0 x2) = g; intro h
  pointwise [k1_pay29, k1_pay4, k1_pay5, k1_pay6]
  rw [h]
  fin_cases j <;> rfl

variable {x1 x3 x4 x5} {G : Fin 512 → BitVec 32} {t : BitVec 32}

/-- The flag of the hypothesis found, of its parent's row and its token. -/
theorem cnt0_apply (hG : ∀ k, row0 x0 x2 x3 x4 x5 (ix2 r k) = G k) (ht : tok0 x0 x1 x2 (ix2 r 0) = t) :
    cnt0 x0 x1 x2 x3 x4 x5 (ix2 r 0) = BitVec.setWidth 32 (goes (snoc G t)) := by
  rw [← flag_snoc (by decide)]
  obtain rfl : (fun k => row0 x0 x2 x3 x4 x5 (ix2 r k)) = G := funext hG
  obtain rfl := ht
  unfold cnt0 k1_pay13
  unfold row0
  generalize k1_pay12 (k1_pay4 (F := Ideal) x3) (k1_pay5 (F := Ideal) x4) (k1_pay6 (F := Ideal) x5) (pos0 x0 x2) 3#32 (k1_pay10 x0 x2) = R
  generalize tok0 x0 x1 x2 = T
  unfold tally
  pointwise [k1_pay14]
/-- (the second) -/
theorem cnt1_apply (hG : ∀ k, row1 x0 x2 x3 x4 x5 (ix2 r k) = G k) (ht : tok1 x0 x1 x2 (ix2 r 0) = t) :
    cnt1 x0 x1 x2 x3 x4 x5 (ix2 r 0) = BitVec.setWidth 32 (goes (snoc G t)) := by
  rw [← flag_snoc (by decide)]
  obtain rfl : (fun k => row1 x0 x2 x3 x4 x5 (ix2 r k)) = G := funext hG
  obtain rfl := ht
  unfold cnt1 k1_pay22
  unfold row1
  generalize k1_pay21 (k1_pay4 (F := Ideal) x3) (k1_pay5 (F := Ideal) x4) (k1_pay6 (F := Ideal) x5) (pos1 x0 x2) 3#32 (k1_pay18 cc (e1 x0 x2)) (k1_pay19 cc (e1 x0 x2)) 0#32 = R
  generalize tok1 x0 x1 x2 = T
  unfold tally
  pointwise [k1_pay23]
/-- (the third) -/
theorem cnt2_apply (hG : ∀ k, row2 x0 x2 x3 x4 x5 (ix2 r k) = G k) (ht : tok2 x0 x1 x2 (ix2 r 0) = t) :
    cnt2 x0 x1 x2 x3 x4 x5 (ix2 r 0) = BitVec.setWidth 32 (goes (snoc G t)) := by
  rw [← flag_snoc (by decide)]
  obtain rfl : (fun k => row2 x0 x2 x3 x4 x5 (ix2 r k)) = G := funext hG
  obtain rfl := ht
  unfold cnt2 k1_pay30 k1_pay31
  unfold row2
  generalize k1_pay29 (k1_pay4 (F := Ideal) x3) (k1_pay5 (F := Ideal) x4) (k1_pay6 (F := Ideal) x5) (pos2 x0 x2) 3#32 (k1_pay27 cc (e2 x0 x2)) (k1_pay28 cc (e2 x0 x2)) 0#32 = R
  generalize tok2 x0 x1 x2 = T
  unfold tally
  pointwise [k1_pay1, k1_pay32]
end

end Cert.KernelIdeal.Own

end
-- ==== Proof.Pre.lean ====
module

public import proofs.«01_k».proof.Proof.Merge
public import proofs.«01_k».proof.Pre_finite_inputs
public import Idealize.ShloMosaic.Lib.Pointwise

@[expose] public section

/-!
What the precondition says of the inputs over the extended reals: the hidden states, the weights and the bias are real, and every
hypothesis's probability is greater than −1.
-/

noncomputable section

namespace Cert.Pre_finite_inputs
open Idealize.ShloMosaic Cert.Best

/-- The side conditions of the precondition's operations. -/
instance holds : Facts where
  bcast_S_S24x768 := by decide
  bcast_S_S768x30522 := by decide
  bcast_S_S1x30522 := by decide
  bcast_S_S24 := by decide

variable {H : FVec Ideal S24x768 .f32} {W : FVec Ideal S768x30522 .f32} {B : FVec Ideal S1x30522 .f32} {S : IVec S24x512 32} {P : FVec Ideal S24 .f32}

/-- The pattern the absolute values are compared with is +∞. -/
theorem inf_eq : (Ideal.ofBits .f32 0x7F800000#32 : EReal) = ⊤ := by
  simp [Ideal.ofBits, Ideal.ieee]

/-- A number whose absolute value is less than infinity is real. -/
theorem real_of_abs {v : EReal} (h : max v (-v) < ⊤) : ∃ y : ℝ, v = y := by
  induction v using EReal.rec with
  | bot => simp at h
  | top => simp at h
  | coe y => exact ⟨y, rfl⟩

/-- A set flag of a comparison says that it holds. -/
theorem of_flag {p : Prop} [Decidable p] (h : BitVec.ofBool (decide p) = 1#1) : p := by
  by_contra hp
  rw [decide_eq_false hp] at h
  exact absurd h (by decide)

/-- A set flag of |v| < ∞ says that v is real. -/
theorem abs_flag {v : EReal} (h : BitVec.ofBool (decide ((FloatOps.absf (F := Ideal) (φ := .f32) v : EReal) < ⊤)) = 1#1) : ∃ y : ℝ, v = y :=
  real_of_abs (of_flag h)

/-- The hidden states are real. -/
theorem H_real (h : (fn (F := Ideal) H W B S P).1 = fun _ => 1#1) (r : Fin 24) (q : Fin 768) : ∃ y : ℝ, (H (ix2 r q) : EReal) = y := by
  have := congrFun h (ix2 r q)
  unfold fn at this
  revert this
  pointwise [inf_eq]
  exact abs_flag

/-- The weights are real. -/
theorem W_real (h : (fn (F := Ideal) H W B S P).2.1 = fun _ => 1#1) (q : Fin 768) (k : Fin 30522) : ∃ y : ℝ, (W (ix2 q k) : EReal) = y := by
  have := congrFun h (ix2 q k)
  unfold fn at this
  revert this
  pointwise [inf_eq]
  exact abs_flag

/-- The bias is real. -/
theorem B_real (h : (fn (F := Ideal) H W B S P).2.2.1 = fun _ => 1#1) (k : Fin 30522) : ∃ y : ℝ, (B (ix2 0 k) : EReal) = y := by
  have := congrFun h (ix2 0 k)
  unfold fn at this
  revert this
  pointwise [inf_eq]
  exact abs_flag

/-- Every hypothesis has a probability greater than −1. -/
theorem P_gt (h : (fn (F := Ideal) H W B S P).2.2.2 = fun _ => 1#1) (r : Fin 24) : -1 < (P (ix1 r) : EReal) := by
  have := congrFun h (ix1 r)
  unfold fn at this
  revert this
  pointwise []
  intro h
  exact Cert.KernelIdeal.Own.neg_one_eq ▸ of_flag h

/-- The logits of such inputs are real. -/
theorem logit_real (hH : (fn (F := Ideal) H W B S P).1 = fun _ => 1#1) (hW : (fn (F := Ideal) H W B S P).2.1 = fun _ => 1#1)
    (hB : (fn (F := Ideal) H W B S P).2.2.1 = fun _ => 1#1) (r : Fin 24) (k : Fin 30522) :
    ∃ y : ℝ, (∑ q : Fin 768, (H (ix2 r q) : EReal) * W (ix2 q k)) + B (ix2 0 k) = y := by
  choose f hf using H_real hH r
  choose g hg using fun q => W_real hW q k
  obtain ⟨b, hb⟩ := B_real hB k
  refine ⟨(∑ q : Fin 768, f q * g q) + b, ?_⟩
  rw [EReal.coe_add, coe_sum, hb]
  refine congrArg (· + (b : EReal)) (Finset.sum_congr rfl fun q _ => ?_)
  rw [hf, hg, EReal.coe_mul]

end Cert.Pre_finite_inputs
end
-- ==== Proof.Out.lean ====
module

public import proofs.«01_k».proof.Proof.Merge

@[expose] public section

set_option maxRecDepth 16384

/-!
The program's three results, read at one sequence and one of its three hypotheses.
-/

noncomputable section

namespace Cert.KernelIdeal.Own
open Cert.KernelIdeal Cert.KernelIdeal.Gen Cert.Best
open Idealize.ShloMosaic Idealize.ShloMosaic.TcCoe

variable (m : (ℓ : Loc nD τ sig) → Buf (Elt Ideal) ℓ) (c : Dev nD) (a : Vec Ideal S24x3 .f32) (b : Vec Ideal S24x3 .i32)

/-- The arguments the merge reads. -/
abbrev argS (c : Dev nD) : Vec Ideal S24x512 .i32 := m ((c : Thread nD τ).loc main_arg3)
/-- The beams' probabilities. -/
abbrev argP (c : Dev nD) : Vec Ideal S24 .f32 := m ((c : Thread nD τ).loc main_arg4)

/-- The beam a sequence's hypothesis extends. -/
def beamOf (s : Fin 8) (k : Fin 9) : Fin 24 := ⟨s.val * 3 + k.val / 3, by omega⟩
/-- The place of its token among the beam's three. -/
def placeOf (k : Fin 9) : Fin 3 := ⟨k.val % 3, by omega⟩

/-- A hypothesis' score, -/
def score (s : Fin 8) (k : Fin 9) : EReal := (argP m c (ix1 (beamOf s k)) : EReal) * a (ix2 (beamOf s k) (placeOf k))
/-- and its row of tokens, the new one last. -/
def newRow (s : Fin 8) (k : Fin 9) : Fin 513 → BitVec 32 := snoc (fun l => argS m c (ix2 (beamOf s k) l)) (b (ix2 (beamOf s k) (placeOf k)))

/-- The first region leaves the beams as they were. -/
theorem W2_arg3 : W2 m c a b main_arg3 = argS m c := by
  unfold W2; rw [Function.update_of_ne (by decide), Function.update_of_ne (by decide)]; exact V1_of m c main_arg3 (by decide)
/-- The first region leaves the beams' probabilities as they were. -/
theorem W2_arg4 : W2 m c a b main_arg4 = argP m c := by
  unfold W2; rw [Function.update_of_ne (by decide), Function.update_of_ne (by decide)]; exact V1_of m c main_arg4 (by decide)

/-- The merge reads the probabilities nine to a sequence. -/
theorem W3_v3 (s : Fin 8) (k : Fin 9) : (W3 m c a b main_v3 : Vec Ideal S8x9 .f32) (ix2 s k) = a (ix2 (beamOf s k) (placeOf k)) := by
  unfold W3
  after_results_simp
  pointwise []
  exact congrFun (W2_a m c a b) _
/-- The merge reads the tokens nine to a sequence. -/
theorem W3_v4 (s : Fin 8) (k : Fin 9) : (W3 m c a b main_v4 : Vec Ideal S8x9 .i32) (ix2 s k) = b (ix2 (beamOf s k) (placeOf k)) := by
  unfold W3
  after_results_simp
  pointwise []
  exact congrFun (W2_b m c a b) _
/-- The merge reads the beams' probabilities three to a sequence. -/
theorem W3_v5 (s : Fin 8) (k : Fin 3) (e : Fin 24) (h : e.val = s.val * 3 + k.val) : (W3 m c a b main_v5 : Vec Ideal S8x3 .f32) (ix2 s k) = argP m c (ix1 e) := by
  have hl : s.val * 3 + k.val < 24 := by omega
  obtain rfl : e = ⟨s.val * 3 + k.val, hl⟩ := Fin.ext h
  unfold W3
  after_results_simp
  pointwise []
  exact congrFun (W2_arg4 m c a b) _
/-- The merge reads the rows of the three beams of a sequence. -/
theorem W3_beam (s : Fin 8) (q : Fin 3) (k : Fin 512) (e : Fin 24) (h : e.val = s.val * 3 + q.val) :
    (![W3 m c a b main_v7, W3 m c a b main_v9, W3 m c a b main_v11] : Fin 3 → Vec Ideal S8x512 .i32) q (ix2 s k) = argS m c (ix2 e k) := by
  have hl : s.val * 3 + q.val < 24 := by omega
  obtain rfl : e = ⟨s.val * 3 + q.val, hl⟩ := Fin.ext h
  fin_cases q
  · show (W3 m c a b main_v7 : Vec Ideal S8x512 .i32) (ix2 s k) = _
    unfold W3
    after_results_simp
    pointwise []
    exact congrFun (W2_arg3 m c a b) _
  · show (W3 m c a b main_v9 : Vec Ideal S8x512 .i32) (ix2 s k) = _
    unfold W3
    after_results_simp
    pointwise []
    exact congrFun (W2_arg3 m c a b) _
  · show (W3 m c a b main_v11 : Vec Ideal S8x512 .i32) (ix2 s k) = _
    unfold W3
    after_results_simp
    pointwise []
    exact congrFun (W2_arg3 m c a b) _

/-- What the merge finds, at one sequence: the three best hypotheses, their scores, their rows and their flags. -/
theorem merge_out (s : Fin 8) (hs : ∀ k, -1 < score m c a s k) : ∃ i : Fin 3 → Fin 9, Best (score m c a s) (fun _ => True) i ∧
    ∀ q, out3 (fun c => W3 m c a b) c (ix2 s q) = score m c a s (i q)
      ∧ out4 (fun c => W3 m c a b) c (ix2 s q) = BitVec.setWidth 32 (goes (newRow m c b s (i q)))
      ∧ ∀ k, (![out0 (fun c => W3 m c a b) c, out1 (fun c => W3 m c a b) c, out2 (fun c => W3 m c a b) c] : Fin 3 → Vec Ideal S8x513 .i32) q (ix2 s k) = newRow m c b s (i q) k := by
  obtain ⟨j0, j1, j2, p0, p1, p2, ⟨c0, c1, c2⟩, v0, v1, v2⟩ := merge_picks (W3 m c a b main_v3) (W3 m c a b main_v5) s
  have he : row8 (e0 (W3 m c a b main_v3) (W3 m c a b main_v5)) s = score m c a s := funext fun k => by
    refine (e0_apply _ _ s k).trans ?_
    unfold score
    rw [W3_v3, W3_v5 m c a b s ⟨k.val / 3, by omega⟩ (beamOf s k) rfl]
  rw [he] at p0 p1 p2 v0 v1 v2
  obtain ⟨hb, g1, g2⟩ := best_of_picks (z := -1) (f := score m c a s) (S := fun _ => True) (i := ![j0, j1, j2])
    (fun k _ => hs k) (fun k hk => absurd trivial hk) (t := fun q => q.castLE (by decide)) (fun _ => trivial) (Fin.castLE_injective (by decide)) p0 p1 p2
  have hrow : ∀ (j : Fin 9) (k : Fin 512), (![W3 m c a b main_v7, W3 m c a b main_v9, W3 m c a b main_v11] : Fin 3 → Vec Ideal S8x512 .i32) ⟨j.val / 3, by omega⟩ (ix2 s k)
      = argS m c (ix2 (beamOf s j) k) := fun j k => W3_beam m c a b s ⟨j.val / 3, by omega⟩ k (beamOf s j) rfl
  have n0 := (tok0_apply (W3 m c a b main_v4) c0).trans (W3_v4 m c a b s j0)
  have n1 := (tok1_apply (W3 m c a b main_v4) c1).trans (W3_v4 m c a b s j1)
  have n2 := (tok2_apply (W3 m c a b main_v4) c2).trans (W3_v4 m c a b s j2)
  have r0 := fun k => (row0_apply (W3 m c a b main_v7) (W3 m c a b main_v9) (W3 m c a b main_v11) c0 k).trans (hrow j0 k)
  have r1 := fun k => (row1_apply (W3 m c a b main_v7) (W3 m c a b main_v9) (W3 m c a b main_v11) c1 k).trans (hrow j1 k)
  have r2 := fun k => (row2_apply (W3 m c a b main_v7) (W3 m c a b main_v9) (W3 m c a b main_v11) c2 k).trans (hrow j2 k)
  have hj : ∀ (R : Vec Ideal S8x512 .i32) (N : Vec Ideal S8x1 .i32) (j : Fin 9), (∀ k, R (ix2 s k) = argS m c (ix2 (beamOf s j) k)) →
      N (ix2 s 0) = b (ix2 (beamOf s j) (placeOf j)) → ∀ k, joined R N (ix2 s k) = newRow m c b s j k := by
    intro R N j hR hN k
    unfold joined newRow
    by_cases h : k.val < 512
    · refine (dif_pos h).trans (((congrArg R ?_).trans (hR ⟨k.val, h⟩)).trans (snoc_lt (G := fun l => argS m c (ix2 (beamOf s j) l)) h).symm)
      exact funext (Fin.forall_fin_two.2 ⟨rfl, rfl⟩)
    · refine (dif_neg h).trans (((congrArg N ?_).trans hN).trans (snoc_ge h).symm)
      exact funext (Fin.forall_fin_two.2 ⟨rfl, rfl⟩)
  have h3 : ∀ {e : EltTy} (x y z : Vec Ideal S8x1 e) (q : Fin 3), three x y z (ix2 s q) = (![x, y, z] : Fin 3 → Vec Ideal S8x1 e) q (ix2 s 0) := by
    intro e x y z q
    have : (fun a => ⟨(![s.val, 0] : Fin 2 → ℕ) a, by revert a; exact Fin.forall_fin_two.mpr ⟨s.isLt, Nat.one_pos⟩⟩ : S8x1.Idx) = ix2 s 0 := funext (Fin.forall_fin_two.2 ⟨rfl, rfl⟩)
    unfold three
    refine (congrArg _ this).trans ?_
    fin_cases q <;> rfl
  refine ⟨![j0, j1, j2], hb, fun q => ⟨(h3 _ _ _ q).trans ?_, (h3 _ _ _ q).trans ?_, ?_⟩⟩
  · fin_cases q
    exacts [v0, v1.trans g1, v2.trans g2]
  · fin_cases q
    exacts [cnt0_apply r0 n0, cnt1_apply r1 n1, cnt2_apply r2 n2]
  · fin_cases q
    exacts [hj _ _ j0 r0 n0, hj _ _ j1 r1 n1, hj _ _ j2 r2 n2]

/-- The results, read off what the merge leaves. -/
theorem W5_v18 (R : Fin 24) : (W5 m c a b main_v18 : Vec Ideal S24 .f32) (ix1 R) = out3 (fun c => W3 m c a b) c (ix2 ⟨R.val / 3, by omega⟩ ⟨R.val % 3, by omega⟩) := by
  unfold W5
  after_results_simp
  pointwise []
  exact congrFun (W4_3 (fun c => W3 m c a b) c) _
/-- The third result at a row. -/
theorem W5_v21 (R : Fin 24) : (W5 m c a b main_v21 : Vec Ideal S24 .i1) (ix1 R) = IntOp.cmpi .ne (out4 (fun c => W3 m c a b) c (ix2 ⟨R.val / 3, by omega⟩ ⟨R.val % 3, by omega⟩)) 0#32 := by
  unfold W5
  after_results_simp
  pointwise []
  exact congrArg (IntOp.cmpi .ne · 0#32) (congrFun (W4_4 (fun c => W3 m c a b) c) _)
/-- The first result at a row. -/
theorem W5_v17 (R : Fin 24) (k : Fin 513) : (W5 m c a b main_v17 : Vec Ideal S24x513 .i32) (ix2 R k)
    = (![out0 (fun c => W3 m c a b) c, out1 (fun c => W3 m c a b) c, out2 (fun c => W3 m c a b) c] : Fin 3 → Vec Ideal S8x513 .i32) ⟨R.val % 3, by omega⟩ (ix2 ⟨R.val / 3, by omega⟩ k) := by
  rw [← W4_0 (fun c => W3 m c a b) c, ← W4_1 (fun c => W3 m c a b) c, ← W4_2 (fun c => W3 m c a b) c]
  unfold W5
  generalize W4 (fun c => W3 m c a b) c = U
  after_results_simp
  pointwise []
  after_results_simp
  pointwise []
  rcases (by omega : R.val % 3 = 0 ∨ R.val % 3 = 1 ∨ R.val % 3 = 2) with h | h | h <;> simp only [h] <;> rfl

end Cert.KernelIdeal.Own

end
-- ==== Proof.Ref.lean ====
module

public import proofs.«01_k».proof.Proof.Out
public import proofs.«01_k».proof.Proof.Gen.ReferenceIdeal.Run

@[expose] public section

set_option maxRecDepth 16384

/-!
The reference's results: its probabilities are the softmax of the logits, its two top-k find the three best columns of a row and the three
best hypotheses of a sequence, and its gathers read the tokens and the parents' rows.
-/

noncomputable section

namespace Cert.ReferenceIdeal.Own
open Cert.ReferenceIdeal Cert.ReferenceIdeal.Gen Cert.ReferenceIdeal.Value Cert.Best
open Idealize.ShloMosaic Idealize.ShloMosaic.TcCoe
open Cert.KernelIdeal.Own (softmax beamOf placeOf ninf_eq)

variable (V : Valuation τ sig (Elt Ideal))

/-- The arguments. -/
abbrev rH : Vec Ideal S24x768 .f32 := V (Proc.devRef .tc main_arg0)
/-- The weights. -/
abbrev rW : Vec Ideal S768x30522 .f32 := V (Proc.devRef .tc main_arg1)
/-- The bias. -/
abbrev rB : Vec Ideal S1x30522 .f32 := V (Proc.devRef .tc main_arg2)
/-- The beams. -/
abbrev rS : Vec Ideal S24x512 .i32 := V (Proc.devRef .tc main_arg3)
/-- The beams' probabilities. -/
abbrev rP : Vec Ideal S24 .f32 := V (Proc.devRef .tc main_arg4)

/-- The reference's probabilities and their columns, the three best of each row. -/
def topP : Vec Ideal S24x3 .f32 := (Host.topK S24x3 1 (FloatOps.cmpfTotal .gt) (res_main_v13 V) sliceFits_S24x30522_S24x3).1
/-- The columns in which they stand. -/
def topI : Vec Ideal S24x3 .i32 := (Host.topK S24x3 1 (FloatOps.cmpfTotal .gt) (res_main_v13 V) sliceFits_S24x30522_S24x3).2

/-- A logit: the product of the hidden state and the weights, and the bias. -/
theorem v2_apply (r : Fin 24) (k : Fin 30522) : (res_main_v2 V : Vec Ideal S24x30522 .f32) (ix2 r k) = (∑ q : Fin 768, (rH V (ix2 r q) : EReal) * rW V (ix2 q k)) + rB V (ix2 0 k) := by
  pointwise [res_main_v2]

/-- Row `r` of the logits. -/
abbrev lrow (r : Fin 24) : Fin 30522 → EReal := fun k => (res_main_v2 V : Vec Ideal S24x30522 .f32) (ix2 r k)

/-- Row `r` of the exponentials. -/
abbrev erow (r : Fin 24) : Fin 30522 → EReal := fun k => (res_main_v9 V : Vec Ideal S24x30522 .f32) (ix2 r k)

/-- A fold over the indices of one row is a fold over its columns. -/
theorem fold_row (f : S24x30522.Idx → EReal) (r : Fin 24) : Finset.fold max ⊥ f {i | reducesTo_S24x30522_S24_d1.drop i = ix1 r} = Finset.univ.fold max ⊥ fun k : Fin 30522 => f (ix2 r k) :=
  Shape.ReducesTo.fold_fiber_r2_a1 reducesTo_S24x30522_S24_d1 (ix1 r) max ⊥ f

/-- A select by a set flag. -/
theorem sel_one {α : Type} (a b : α) : Scalar.select 1#1 a b = a := rfl

/-- The exponential of a logit less its row's maximum. -/
theorem v9_apply (r : Fin 24) (k : Fin 30522) : (res_main_v9 V : Vec Ideal S24x30522 .f32) (ix2 r k) = Ideal.exp (lrow V r k - max ⊥ (Finset.univ.fold max ⊥ (lrow V r))) := by
  pointwise [res_main_v9, ninf_eq]
  exact congrArg (fun M : EReal => Ideal.exp (lrow V r k - max ⊥ M)) (fold_row _ r)

/-- A probability: an exponential divided by its row's sum. -/
theorem v13_apply (r : Fin 24) (k : Fin 30522) : (res_main_v13 V : Vec Ideal S24x30522 .f32) (ix2 r k)
    = Ideal.div ((res_main_v9 V : Vec Ideal S24x30522 .f32) (ix2 r k)) (∑ l : Fin 30522, erow V r l) := by
  pointwise [res_main_v13]

section
variable {x : Fin 24 → Fin 30522 → ℝ} (hx : ∀ r k, (∑ q : Fin 768, (rH V (ix2 r q) : EReal) * rW V (ix2 q k)) + rB V (ix2 0 k) = x r k)
  {r : Fin 24} {a : Fin 3 → Fin 30522} (ha : Best (fun k => (x r k : EReal)) (fun _ => True) a)
include hx ha

/-- Over real logits the maximum is the best column's logit. -/
theorem v9_eq (k : Fin 30522) : (res_main_v9 V : Vec Ideal S24x30522 .f32) (ix2 r k) = ((Real.exp (x r k - x r (a 0)) : ℝ) : EReal) := by
  have hl : lrow V r = fun k => (x r k : EReal) := funext fun k => (v2_apply V r k).trans (hx r k)
  have hp : Pick (fun k => (x r k : EReal)) (a 0) := fun k hk => ha.first trivial hk
  rw [v9_apply, hl, fold_of_pick hp, max_eq_right bot_le, ← EReal.coe_sub, Ideal.exp_coe]

/-- The reference's probabilities are the softmax. -/
theorem v13_eq (k : Fin 30522) : (res_main_v13 V : Vec Ideal S24x30522 .f32) (ix2 r k) = softmax (x r) (a 0) k := by
  rw [v13_apply, v9_eq V hx ha k]
  unfold softmax
  rw [coe_sum]
  exact congrArg _ (Finset.sum_congr rfl fun l _ => v9_eq V hx ha l)

/-- The three best probabilities stand in the three best columns. -/
theorem top_eq (q : Fin 3) : topP V (ix2 r q) = softmax (x r) (a 0) (a q) ∧ topI V (ix2 r q) = BitVec.ofNat 32 (a q).val := by
  obtain ⟨i, hi, ht⟩ := topK_best (by decide) (res_main_v13 V : Vec Ideal S24x30522 .f32) sliceFits_S24x30522_S24x3 r
  have hs : (fun k => (res_main_v13 V : Vec Ideal S24x30522 .f32) (ix2 r k)) = softmax (x r) (a 0) := funext fun k => v13_eq V hx ha k
  have hb : Best (softmax (x r) (a 0)) (fun _ => True) a := ha.of_better fun k l h => by
    have hZ : 0 < ∑ l : Fin 30522, Real.exp (x r l - x r (a 0)) := Finset.sum_pos (fun l _ => Real.exp_pos _) ⟨a 0, Finset.mem_univ _⟩
    have hv : ∀ k, softmax (x r) (a 0) k = ((Real.exp (x r k - x r (a 0)) * (1 / ∑ l : Fin 30522, Real.exp (x r l - x r (a 0))) : ℝ) : EReal) := fun k => by
      unfold softmax; rw [Ideal.div_coe hZ.ne', ← EReal.coe_mul]
    unfold Better at h ⊢
    rw [hv, hv]
    rcases h with h | ⟨h, hl⟩
    · left
      rw [EReal.coe_lt_coe_iff] at h ⊢
      exact mul_lt_mul_of_pos_right (Real.exp_lt_exp.2 (by linarith)) (by positivity)
    · right
      rw [EReal.coe_eq_coe_iff] at h
      exact ⟨by rw [h], hl⟩
  rw [hs] at hi
  obtain rfl := hi.uniq hb
  exact ⟨(ht q).1.trans (congrFun hs _), (ht q).2⟩
end

/-- An extended hypothesis's probability: its beam's, times that of the token. -/
theorem v18_apply (s : Fin 8) (k : Fin 9) : (res_main_v18 V : Vec Ideal S8x9 .f32) (ix2 s k) = (rP V (ix1 (beamOf s k)) : EReal) * topP V (ix2 (beamOf s k) (placeOf k)) := by
  unfold res_main_v18
  rw [show (Host.topK S24x3 1 (FloatOps.cmpfTotal .gt) (res_main_v13 V) sliceFits_S24x30522_S24x3).1 = topP V from rfl]
  generalize topP V = T
  pointwise []
  rfl

section
variable {s : Fin 8} {q : Fin 3} {j : Fin 9} (hj : (res_main_indices_3 V : Vec Ideal S8x3 .i32) (ix2 s q) = BitVec.ofNat 32 j.val)
include hj

/-- The index of the token gather: an index not negative stays as it is. -/
theorem call0_apply : (res_main_call0_v5 V : Vec Ideal S8x3x1 .i32) (ix3 s q 0) = BitVec.ofNat 32 j.val := by
  revert hj
  unfold res_main_call0_v5
  generalize res_main_indices_3 V = g
  intro hj
  pointwise []
  rw [hj]
  fin_cases j <;> rfl

/-- The index of the row gather: a third of the hypothesis's number, rounded down. -/
theorem call2_apply : (res_main_call2_v4 V : Vec Ideal S8x3x1 .i32) (ix3 s q 0) = BitVec.ofNat 32 (j.val / 3) := by
  revert hj
  unfold res_main_call2_v4 res_main_v23 res_main_call1_v2 res_main_call1_v0
  generalize res_main_indices_3 V = g
  intro hj
  pointwise []
  rw [hj]
  fin_cases j <;> rfl

omit hj in
/-- The gather of a token: the one at the hypothesis that the index names. -/
theorem gather_tok (x : IVec S8x9 32) (g : IVec S8x3x1 32) (hg : g (ix3 s q 0) = BitVec.ofNat 32 j.val) :
    Host.gather gather_S8x9_S8x3x1_S8x3_n_1_0_0_1_2_11 x g (ix2 s q) = x (ix2 s j) := by
  refine congrArg x (funext fun a => Fin.ext ?_)
  show GatherDims.start _ _ g a + GatherDims.batchCoord _ _ a + GatherDims.offCoord _ _ a = _
  have h01 : a = 0 ∨ a = 1 := by
    match a with
    | ⟨0, _⟩ => exact .inl rfl
    | ⟨1, _⟩ => exact .inr rfl
  rcases h01 with rfl | rfl
  · rw [GatherDims.start_batching _ _ _ _ (by decide), GatherDims.offCoord_eq_zero _ _ _ (by decide)]
    unfold GatherDims.batchCoord
    rw [dif_pos (by decide), Nat.zero_add]
    rfl
  · rw [GatherDims.batchCoord_eq_zero _ _ _ (by decide), GatherDims.offCoord_eq_zero _ _ _ (by decide)]
    unfold GatherDims.start
    rw [dif_pos (by decide), show GatherDims.siIdx _ (ix2 s q) _ = ix3 s q 0 from funext fun b => Fin.ext (by
      match b with
      | ⟨0, _⟩ => rfl
      | ⟨1, _⟩ => rfl
      | ⟨2, _⟩ => rfl), hg]
    fin_cases j <;> rfl

omit hj in
/-- The gather of a parent's row: the row that the index names. -/
theorem gather_row (x : IVec S8x3x512 32) (g : IVec S8x3x1 32) (e : Fin 3) (l : Fin 512) (hg : g (ix3 s q 0) = BitVec.ofNat 32 e.val) :
    Host.gather gather_S8x3x512_S8x3x1_S8x3x512_2_1_0_0_1_2_11512 x g (ix3 s q l) = x (ix3 s e l) := by
  refine congrArg x (funext fun a => Fin.ext ?_)
  show GatherDims.start _ _ g a + GatherDims.batchCoord _ _ a + GatherDims.offCoord _ _ a = _
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.start_batching _ _ _ _ (by decide), GatherDims.offCoord_eq_zero _ _ _ (by decide)]
    unfold GatherDims.batchCoord
    rw [dif_pos (by decide), Nat.zero_add]
    rfl
  · rw [GatherDims.batchCoord_eq_zero _ _ _ (by decide), GatherDims.offCoord_eq_zero _ _ _ (by decide)]
    unfold GatherDims.start
    rw [dif_pos (by decide), show GatherDims.siIdx _ (ix3 s q l) _ = ix3 s q 0 from funext fun b => Fin.ext (by
      match b with
      | ⟨0, _⟩ => rfl
      | ⟨1, _⟩ => rfl
      | ⟨2, _⟩ => rfl), hg]
    fin_cases e <;> rfl
  · rw [GatherDims.batchCoord_eq_zero _ _ _ (by decide)]
    unfold GatherDims.start GatherDims.offCoord
    rw [dif_neg (by decide), dif_pos (by decide)]
    exact Nat.zero_add _

omit hj in
/-- The test that an index lies between zero and `n`, folded over its one component. -/
theorem in_range (g : IVec S8x3x1 32) (n : BitVec 32) :
    Finset.fold IntOp.andi (1#1) (fun x => IntOp.andi (IntOp.cmpi .sge (g x) 0#32) (IntOp.cmpi .sle (g x) n)) {i | reducesTo_S8x3x1_S8x3_d2.drop i = ix2 s q}
      = IntOp.andi (IntOp.andi (IntOp.cmpi .sge (g (ix3 s q 0)) 0#32) (IntOp.cmpi .sle (g (ix3 s q 0)) n)) 1#1 := by
  rw [Shape.ReducesTo.fold_fiber_r3_a2 reducesTo_S8x3x1_S8x3_d2 (ix2 s q) IntOp.andi]
  rw [Finset.univ_unique, Finset.fold_singleton]
  rfl

/-- A row of the first result: the parent's row and the token. -/
theorem v27_apply (k : Fin 513) (R : Fin 24) (hR : R.val = s.val * 3 + q.val) : (res_main_v27 V : Vec Ideal S24x513 .i32) (ix2 R k)
    = snoc (fun l => rS V (ix2 (beamOf s j) l)) (topI V (ix2 (beamOf s j) (placeOf j))) k := by
  have h0 := call0_apply V hj
  have h2 := call2_apply V hj
  revert h0 h2
  unfold res_main_v27
  rw [show (Host.topK S24x3 1 (FloatOps.cmpfTotal .gt) (res_main_v13 V) sliceFits_S24x30522_S24x3).2 = topI V from rfl]
  generalize topI V = T
  generalize res_main_call0_v5 V = g0
  generalize res_main_call2_v4 V = g2
  intro h0 h2
  pointwise []
  have e1 : ∀ h, (⟨R.val / 3, h⟩ : Fin 8) = s := fun h => Fin.ext (by show R.val / 3 = s.val; omega)
  have e2 : ∀ h, (⟨R.val % 3, h⟩ : Fin 3) = q := fun h => Fin.ext (by show R.val % 3 = q.val; omega)
  simp only [e1, e2]
  have b : (⟨j.val / 3, by omega⟩ : Fin 3).val = j.val / 3 := rfl
  have i2 := in_range (s := s) (q := q) g2 2#32
  have i0 := in_range (s := s) (q := q) g0 8#32
  rw [h2] at i2
  rw [h0] at i0
  have w2 : IntOp.andi (IntOp.andi (IntOp.cmpi .sge (BitVec.ofNat 32 (j.val / 3)) 0#32) (IntOp.cmpi .sle (BitVec.ofNat 32 (j.val / 3)) 2#32)) 1#1 = 1#1 := by fin_cases j <;> rfl
  have w0 : IntOp.andi (IntOp.andi (IntOp.cmpi .sge (BitVec.ofNat 32 j.val) 0#32) (IntOp.cmpi .sle (BitVec.ofNat 32 j.val) 8#32)) 1#1 = 1#1 := by fin_cases j <;> rfl
  by_cases hk : k.val < 512
  · rw [dif_pos hk, snoc_lt (h := hk)]
    refine (congrArg (fun w => Scalar.select w _ _) (i2.trans w2)).trans ?_
    refine (sel_one _ _).trans ?_
    refine (gather_row _ g2 ⟨j.val / 3, by omega⟩ ⟨k.val, hk⟩ h2).trans ?_
    pointwise []
    rfl
  · rw [dif_neg hk, snoc_ge (h := hk)]
    refine (congrArg (fun w => Scalar.select w _ _) (i0.trans w0)).trans ?_
    refine (sel_one _ _).trans ?_
    refine (gather_tok (j := j) _ g0 h0).trans ?_
    pointwise []
    rfl
end

end Cert.ReferenceIdeal.Own

end
-- ==== Proof.Final.lean ====
module

public import proofs.«01_k».proof.Proof.Ref

@[expose] public section

set_option maxRecDepth 16384

/-!
The two programs' results are equal: at inputs that agree, with real logits and every hypothesis's probability greater than −1.
-/

noncomputable section

namespace Cert.ReferenceIdeal.Own
open Cert.ReferenceIdeal Cert.ReferenceIdeal.Gen Cert.ReferenceIdeal.Value Cert.Best
open Idealize.ShloMosaic Idealize.ShloMosaic.TcCoe
open Cert.KernelIdeal.Own (softmax beamOf placeOf score newRow merge_out IsProb IsBest argH argW argB argS argP lgt W3 W5 W5_v17 W5_v18 W5_v21 out3 out4)

section flags
variable (V : Valuation τ sig (Elt Ideal))

/-- The reference's third result: which of its rows go on. -/
def refGo : Vec Ideal S24 .i1 :=
  andi (cmpi .sle (Host.reduce IntOp.addi (extui 32 (cmpi .eq (res_main_v27 V) (broadcastInDim S24x513 ![] bcast_S_S24x513 (constantI S_ 32 102#32))) natLt_1_32) (constantI S_ 32 0#32) reducesTo_S24x513_S24_d1 h_S_) (broadcastInDim S24 ![] bcast_S_S24 (constantI S_ 32 3#32))) (Host.reduce IntOp.andi (cmpi .ne (res_main_v27 V) (broadcastInDim S24x513 ![] bcast_S_S24x513 (constantI S_ 32 1029#32))) (constantI S_ 1 1#1) reducesTo_S24x513_S24_d1 h_S_)

/-- The reference's second result: the probabilities of its hypotheses. -/
def refP : Vec Ideal S24 .f32 :=
  shapeCast _ ((Host.topK S8x3 1 (FloatOps.cmpfTotal .gt) (res_main_v18 V) sliceFits_S8x9_S8x3).1) shapeCasts_S8x3_S24

/-- A row goes on by the flag of its 513 tokens. -/
theorem refGo_apply (R : Fin 24) : refGo V (ix1 R) = goes fun k : Fin 513 => (res_main_v27 V : Vec Ideal S24x513 .i32) (ix2 R k) := by
  unfold refGo
  generalize res_main_v27 V = g
  unfold goes tally
  pointwise []
  exact congrArg₂ (fun A B => IntOp.andi (IntOp.cmpi .sle A 3#32) B)
    (Shape.ReducesTo.fold_fiber_r2_a1 reducesTo_S24x513_S24_d1 (ix1 R) IntOp.addi 0#32 fun y : S24x513.Idx => BitVec.setWidth 32 (IntOp.cmpi .eq ((g : Vec Ideal S24x513 .i32) y) 102#32))
    (Shape.ReducesTo.fold_fiber_r2_a1 reducesTo_S24x513_S24_d1 (ix1 R) IntOp.andi 1#1 fun y : S24x513.Idx => IntOp.cmpi .ne ((g : Vec Ideal S24x513 .i32) y) 1029#32)

/-- Hypothesis `R` is number `R % 3` of sequence `R / 3`. -/
theorem refP_apply (R : Fin 24) : refP V (ix1 R) = (Host.topK S8x3 1 (FloatOps.cmpfTotal .gt) (res_main_v18 V) sliceFits_S8x9_S8x3).1 (ix2 ⟨R.val / 3, by omega⟩ ⟨R.val % 3, by omega⟩) := by
  unfold refP
  generalize (Host.topK S8x3 1 (FloatOps.cmpfTotal .gt) (res_main_v18 V) sliceFits_S8x9_S8x3).1 = g
  pointwise []
end flags

/-- A probability greater than −1, multiplied by a softmax, is greater than −1. -/
theorem neg_one_lt_mul {b : EReal} (hb : -1 < b) (y : Fin 30522 → ℝ) (a k : Fin 30522) : -1 < b * softmax y a k := by
  have hZ : 0 < ∑ l : Fin 30522, Real.exp (y l - y a) := Finset.sum_pos (fun l _ => Real.exp_pos _) ⟨a, Finset.mem_univ _⟩
  obtain ⟨p, hp, h0, h1⟩ : ∃ p : ℝ, softmax y a k = p ∧ 0 < p ∧ p ≤ 1 := by
    refine ⟨Real.exp (y k - y a) * (1 / ∑ l : Fin 30522, Real.exp (y l - y a)), ?_, by positivity, ?_⟩
    · unfold softmax; rw [Ideal.div_coe hZ.ne', ← EReal.coe_mul]
    · rw [mul_one_div, div_le_one hZ]
      exact Finset.single_le_sum (f := fun l => Real.exp (y l - y a)) (fun l _ => (Real.exp_pos _).le) (Finset.mem_univ k)
  have h1 : (-1 : EReal) = ((-1 : ℝ) : EReal) := by rw [EReal.coe_neg, EReal.coe_one]
  rw [hp]
  rw [h1] at hb ⊢
  induction b using EReal.rec with
  | bot => simp at hb
  | top => rw [EReal.top_mul_coe_of_pos h0]; exact EReal.coe_lt_top _
  | coe b =>
    rw [EReal.coe_lt_coe_iff] at hb
    rw [← EReal.coe_mul, EReal.coe_lt_coe_iff]
    nlinarith

section agree
variable {m : (ℓ : Loc Cert.KernelIdeal.nD Cert.KernelIdeal.τ Cert.KernelIdeal.sig) → Buf (Elt Ideal) ℓ} {c : Dev Cert.KernelIdeal.nD} {V : Valuation τ sig (Elt Ideal)}
  {a : Vec Ideal S24x3 .f32} {b : Vec Ideal S24x3 .i32} {x : Dev Cert.KernelIdeal.nD → Fin 24 → Fin 30522 → ℝ}
  (hH : rH V = argH m c) (hW : rW V = argW m c) (hB : rB V = argB m c) (hS : rS V = argS m c) (hP : rP V = argP m c)
  (hx : ∀ c r k, lgt m c r k = x c r k) (hp : ∀ R, -1 < (argP m c (ix1 R) : EReal)) (ha : IsProb x c a) (hb : IsBest x c b)
include hH hW hB hS hP hx hp ha hb

/-- One sequence's three hypotheses: the two programs take the same ones. -/
theorem same (s : Fin 8) : ∃ i : Fin 3 → Fin 9, ∀ q : Fin 3,
    (out3 (fun c => W3 m c a b) c (ix2 s q) = (Host.topK S8x3 1 (FloatOps.cmpfTotal .gt) (res_main_v18 V) sliceFits_S8x9_S8x3).1 (ix2 s q))
    ∧ out4 (fun c => W3 m c a b) c (ix2 s q) = BitVec.setWidth 32 (goes (newRow m c b s (i q)))
    ∧ (∀ k, (![Cert.KernelIdeal.Own.out0 (fun c => W3 m c a b) c, Cert.KernelIdeal.Own.out1 (fun c => W3 m c a b) c, Cert.KernelIdeal.Own.out2 (fun c => W3 m c a b) c] : Fin 3 → Vec Ideal Cert.KernelIdeal.S8x513 .i32) q (ix2 s k) = newRow m c b s (i q) k)
    ∧ ∀ (R : Fin 24), R.val = s.val * 3 + q.val → ∀ k, (res_main_v27 V : Vec Ideal S24x513 .i32) (ix2 R k) = newRow m c b s (i q) k := by
  have hx' : ∀ r k, (∑ q : Fin 768, (rH V (ix2 r q) : EReal) * rW V (ix2 q k)) + rB V (ix2 0 k) = x c r k := fun r k => by
    rw [hH, hW, hB]; exact hx c r k
  have hA : ∀ r, ∃ i, Best (fun k => (x c r k : EReal)) (fun _ => True) i := fun r => by
    obtain ⟨i, hi, -⟩ := topK_best (by decide) (res_main_v2 V : Vec Ideal S24x30522 .f32) sliceFits_S24x30522_S24x3 r
    exact ⟨i, (funext fun k => (v2_apply V r k).trans (hx' r k) : (fun k => (res_main_v2 V : Vec Ideal S24x30522 .f32) (ix2 r k)) = fun k => (x c r k : EReal)) ▸ hi⟩
  choose A hA using hA
  have hsc : ∀ k, score m c a s k = argP m c (ix1 (beamOf s k)) * softmax (x c (beamOf s k)) (A _ 0) (A _ (placeOf k)) := fun k => by
    unfold score; rw [ha _ _ (hA _)]
  obtain ⟨i, hi, ho⟩ := merge_out m c a b s fun k => by rw [hsc]; exact neg_one_lt_mul (hp _) _ _ _
  have hv : (fun k => (res_main_v18 V : Vec Ideal S8x9 .f32) (ix2 s k)) = score m c a s := funext fun k => by
    refine (v18_apply V s k).trans ?_
    rw [hsc, hP, (top_eq V hx' (hA _) _).1]
  obtain ⟨j, hj, ht⟩ := topK_best (by decide) (res_main_v18 V : Vec Ideal S8x9 .f32) sliceFits_S8x9_S8x3 s
  rw [hv] at hj
  obtain rfl := hj.uniq hi
  refine ⟨j, fun q => ⟨(ho q).1.trans (((ht q).1.trans (congrFun hv _)).symm), (ho q).2.1, (ho q).2.2, fun R hR k => ?_⟩⟩
  refine (v27_apply V (q := q) (ht q).2 k R hR).trans ?_
  unfold newRow
  rw [hS, (top_eq V hx' (hA _) _).2, hb _ _ (hA _)]

/-- The first results are equal. -/
theorem same17 : (res_main_v27 V : Vec Ideal S24x513 .i32) = (W5 m c a b Cert.KernelIdeal.main_v17 : Vec Ideal S24x513 .i32) := by
  have h : ∀ (R : Fin 24) (k : Fin 513), (res_main_v27 V : Vec Ideal S24x513 .i32) (ix2 R k) = (W5 m c a b Cert.KernelIdeal.main_v17 : Vec Ideal S24x513 .i32) (ix2 R k) := fun R k => by
    obtain ⟨i, h⟩ := same hH hW hB hS hP hx hp ha hb ⟨R.val / 3, by omega⟩
    obtain ⟨-, -, h3, h4⟩ := h ⟨R.val % 3, by omega⟩
    exact (h4 R (by show R.val = R.val / 3 * 3 + R.val % 3; omega) k).trans ((W5_v17 m c a b R k).trans (h3 k)).symm
  funext i
  rw [show i = ix2 (i 0) (i 1) from funext fun d => by match d with | ⟨0, _⟩ => rfl | ⟨1, _⟩ => rfl]
  exact h _ _

/-- The second results are equal. -/
theorem same18 : refP V = (W5 m c a b Cert.KernelIdeal.main_v18 : Vec Ideal S24 .f32) := by
  have h : ∀ R : Fin 24, refP V (ix1 R) = (W5 m c a b Cert.KernelIdeal.main_v18 : Vec Ideal S24 .f32) (ix1 R) := fun R => by
    obtain ⟨i, h⟩ := same hH hW hB hS hP hx hp ha hb ⟨R.val / 3, by omega⟩
    exact (refP_apply V R).trans (((W5_v18 m c a b R).trans (h ⟨R.val % 3, by omega⟩).1).symm)
  funext i
  rw [show i = ix1 (i 0) from funext fun d => by match d with | ⟨0, _⟩ => rfl]
  exact h _

/-- The third results are equal. -/
theorem same21 : refGo V = (W5 m c a b Cert.KernelIdeal.main_v21 : Vec Ideal S24 .i1) := by
  have h : ∀ R : Fin 24, refGo V (ix1 R) = (W5 m c a b Cert.KernelIdeal.main_v21 : Vec Ideal S24 .i1) (ix1 R) := fun R => by
    obtain ⟨i, h⟩ := same hH hW hB hS hP hx hp ha hb ⟨R.val / 3, by omega⟩
    obtain ⟨-, h2, -, h4⟩ := h ⟨R.val % 3, by omega⟩
    refine (refGo_apply V R).trans (((W5_v21 m c a b R).trans ?_).symm)
    rw [h2, flag_ne]
    exact congrArg goes (funext fun k => (h4 R (by show R.val = R.val / 3 * 3 + R.val % 3; omega) k).symm)
  funext i
  rw [show i = ix1 (i 0) from funext fun d => by match d with | ⟨0, _⟩ => rfl]
  exact h _
end agree

end Cert.ReferenceIdeal.Own
end
-- ==== Proof.lean ====
/-
  The proof of `Cert.Claim`: the two programs' frames (KRun, IRun), the reference's frame (its generated run; it has no semaphore), the
  idealization's one rewritten constant, and the equality of the idealized program's three results with the reference's (Final, under the
  precondition as Pre reads it).
-/
module

public import proofs.«01_k».proof.Defs
public import proofs.«01_k».proof.Proof.KRun
public import proofs.«01_k».proof.Proof.IRun
public import proofs.«01_k».proof.Proof.Pre
public import proofs.«01_k».proof.Proof.Final
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.StableHlo Idealize.SL.Sem

/-- The program runs, leaves its arguments as they were and every semaphore at zero. -/
theorem frame_p : Cert.quiescent_Kernel := fun m g _ => Cert.Kernel.Own.frame m g

/-- So does the idealized program. -/
theorem frame_pi : Cert.quiescent_KernelIdeal := fun m g _ => Cert.KernelIdeal.Own.frame m g

/-- So does the reference: no operation writes an argument, and it has no semaphore. -/
theorem frame_ri : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The one constant the idealization names is −∞. -/
theorem preserves : Cert.preserves_Kernel_KernelIdeal :=
  IdealRules.named_const.statement Cert.KernelIdeal.κ "neg" .f32 0xF149F2CA#32 ⊥ rfl

/-- The idealized program and the reference give equal results. -/
theorem algebraic : Cert.algebraic_KernelIdeal_ReferenceIdeal_pre_finite_inputs := by
  intro m g m' g' hpre hagree
  choose x hx using fun c r k => Cert.Pre_finite_inputs.logit_real (hpre c).1 (hpre c).2.1 (hpre c).2.2.1 r k
  have hp : ∀ c R, -1 < (Cert.KernelIdeal.Own.argP m c (ix1 R) : EReal) := fun c R => Cert.Pre_finite_inputs.P_gt (hpre c).2.2.2 R
  refine ⟨fun c => Cert.ReferenceIdeal.Value.res_main_v27 (launchContents m' c), fun c => Cert.ReferenceIdeal.Own.refP (launchContents m' c),
    fun c => Cert.ReferenceIdeal.Own.refGo (launchContents m' c), ?_, ?_⟩
  · refine (θ_run Cert.KernelIdeal.defs _ _).mono (fun r h c => ?_)
      (Cert.KernelIdeal.Own.run_main (F := Ideal) m (Cert.KernelIdeal.Own.RowInv x) (Cert.KernelIdeal.Own.IsProb x) (Cert.KernelIdeal.Own.IsBest x) g (Cert.KernelIdeal.Own.keeps m hx))
    obtain ⟨hargs, a, b, ⟨ha, hb⟩, h17, h18, h21⟩ := h.1 c
    obtain ⟨e0, e1, e2, e3, e4⟩ := hagree c
    exact ⟨h17.trans (Cert.ReferenceIdeal.Own.same17 e0 e1 e2 e3 e4 hx (hp c) ha hb).symm,
      h18.trans (Cert.ReferenceIdeal.Own.same18 e0 e1 e2 e3 e4 hx (hp c) ha hb).symm,
      h21.trans (Cert.ReferenceIdeal.Own.same21 e0 e1 e2 e3 e4 hx (hp c) ha hb).symm, hargs⟩
  · exact Cert.ReferenceIdeal.Value.run (F := Ideal) m' g'

theorem claim : Cert.Claim := ⟨Cert.Kernel.Gen.facts, Cert.KernelIdeal.Gen.facts, Cert.ReferenceIdeal.Gen.facts, Cert.Pre_finite_inputs.holds,
  frame_p, frame_pi, fun m g _ => frame_pi m g trivial, frame_ri, fun m g _ => frame_ri m g trivial, preserves, algebraic⟩

end Cert.Proof

end
